-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x768 : Shape := ⟨2, ![2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S768x8 : S_.BroadcastsInDim S768x8 (![] : Fin 0 → Fin S768x8.rank)
  reducesTo_S768x8_S_d0_1 : S768x8.ReducesTo [0, 1] S_
  bcast_S_S8x768x768 : S_.BroadcastsInDim S8x768x768 (![] : Fin 0 → Fin S8x768x768.rank)
  reducesTo_S8x768x768_S_d0_1_2 : S8x768x768.ReducesTo [0, 1, 2] S_
  bcast_S_S8 : S_.BroadcastsInDim S8 (![] : Fin 0 → Fin S8.rank)
  reducesTo_S8_S_d0 : S8.ReducesTo [0] S_
  bcast_S_S8x768 : S_.BroadcastsInDim S8x768 (![] : Fin 0 → Fin S8x768.rank)
  reducesTo_S8x768_S_d0_1 : S8x768.ReducesTo [0, 1] S_

variable [Facts]

def fn_part1 {F : FTy → Type} [FloatOps F] (main_arg6 : FVec F S8x768 .f32) (main_arg8 : FVec F S8x768 .f32) (main_v13 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_v17 : IVec S_ 1 := andi main_v13 main_v16
  let main_cst_6 : FVec F S_ .f32 := constant S_ .f32 0x00000000#32
  let main_v18 : FVec F S8x768 .f32 := broadcastInDim S8x768 ![] bcast_S_S8x768 main_cst_6
  let main_v19 : IVec S8x768 1 := cmpf .oeq main_arg6 main_v18
  let main_c_7 : IVec S_ 1 := constantI S_ 1 1#1
  let main_v20 : IVec S_ 1 := (fun x v => Host.reduce IntOp.andi x v reducesTo_S8x768_S_d0_1 h_S_) main_v19 main_c_7
  let main_v21 : IVec S_ 1 := andi main_v17 main_v20
  let main_cst_8 : FVec F S_ .f32 := constant S_ .f32 0x00000000#32
  let main_v22 : FVec F S8x768 .f32 := broadcastInDim S8x768 ![] bcast_S_S8x768 main_cst_8
  let main_v23 : IVec S8x768 1 := cmpf .oeq main_arg8 main_v22
  let main_c_9 : IVec S_ 1 := constantI S_ 1 1#1
  let main_v24 : IVec S_ 1 := (fun x v => Host.reduce IntOp.andi x v reducesTo_S8x768_S_d0_1 h_S_) main_v23 main_c_9
  let main_v25 : IVec S_ 1 := andi main_v21 main_v24
  main_v25

def fn {F : FTy → Type} [FloatOps F] (main_arg0 : FVec F S2048x768 .f32) (main_arg1 : FVec F S2048x768 .f32) (main_arg2 : FVec F S2048x768 .f32) (main_arg3 : FVec F S768x8 .f32) (main_arg4 : FVec F S8 .f32) (main_arg5 : FVec F S8x768x768 .f32) (main_arg6 : FVec F S8x768 .f32) (main_arg7 : FVec F S8x768x768 .f32) (main_arg8 : FVec F S8x768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S768x8 .f32 := Host.absf main_arg3
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8x768x768 .f32 := Host.absf main_arg7
  let main_cst_2 : FVec F S_ .f32 := constant S_ .f32 0x7F800000#32
  let main_v10 : FVec F S8x768x768 .f32 := broadcastInDim S8x768x768 ![] bcast_S_S8x768x768 main_cst_2
  let main_v11 : IVec S8x768x768 1 := cmpf .olt main_v9 main_v10
  let main_c_3 : IVec S_ 1 := constantI S_ 1 1#1
  let main_v12 : IVec S_ 1 := (fun x v => Host.reduce IntOp.andi x v reducesTo_S8x768x768_S_d0_1_2 h_S_) main_v11 main_c_3
  let main_v13 : IVec S_ 1 := andi main_v8 main_v12
  let main_cst_4 : FVec F S_ .f32 := constant S_ .f32 0x00000000#32
  let main_v14 : FVec F S8 .f32 := broadcastInDim S8 ![] bcast_S_S8 main_cst_4
  let main_v15 : IVec S8 1 := cmpf .oeq main_arg4 main_v14
  let main_c_5 : IVec S_ 1 := constantI S_ 1 1#1
  fn_part1 (F := F) main_arg6 main_arg8 main_v13 main_v15 main_c_5
-- ==== Kernel.lean ====
abbrev S2048x768 : Shape := ⟨2, ![2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S_ : Shape := ⟨0, ![]⟩
abbrev S6144 : Shape := ⟨1, ![6144]⟩
abbrev S1x6144 : Shape := ⟨2, ![1, 6144]⟩
abbrev S8x1 : Shape := ⟨2, ![8, 1]⟩
abbrev S8x6144 : Shape := ⟨2, ![8, 6144]⟩
abbrev S1x1 : Shape := ⟨2, ![1, 1]⟩
abbrev S256x768 : Shape := ⟨2, ![256, 768]⟩
abbrev S1x8 : Shape := ⟨2, ![1, 8]⟩
abbrev S8x2 : Shape := ⟨2, ![8, 2]⟩
abbrev S256x8 : Shape := ⟨2, ![256, 8]⟩
abbrev S8x256 : Shape := ⟨2, ![8, 256]⟩
abbrev S256 : Shape := ⟨1, ![256]⟩
abbrev S1x256 : Shape := ⟨2, ![1, 256]⟩
abbrev S256x6144 : Shape := ⟨2, ![256, 6144]⟩
abbrev S768x768 : Shape := ⟨2, ![768, 768]⟩
abbrev S1x768x768 : Shape := ⟨3, ![1, 768, 768]⟩
abbrev S256x1 : Shape := ⟨2, ![256, 1]⟩
abbrev S1x1x8 : Shape := ⟨3, ![1, 1, 8]⟩
abbrev S1 : Shape := ⟨1, ![1]⟩
abbrev S1x1x1 : Shape := ⟨3, ![1, 1, 1]⟩
abbrev S1x8x1 : Shape := ⟨3, ![1, 8, 1]⟩

abbrev nBuf : Space → Nat
  | .hbm => 44
  | .vmem => 20
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S768x8, .f32⟩
  | .hbm, ⟨4, _⟩ => ⟨S8, .f32⟩
  | .hbm, ⟨5, _⟩ => ⟨S8x768x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S8x768x768, .bf16⟩
  | .hbm, ⟨10, _⟩ => ⟨S_, .f32⟩
  | .hbm, ⟨11, _⟩ => ⟨S8x768x768, .f32⟩
  | .hbm, ⟨12, _⟩ => ⟨S8x768x768, .f32⟩
  | .hbm, ⟨13, _⟩ => ⟨S8x768x768, .fp8e4m3⟩
  | .hbm, ⟨14, _⟩ => ⟨S6144, .i32⟩
  | .hbm, ⟨15, _⟩ => ⟨S1x6144, .i32⟩
  | .hbm, ⟨16, _⟩ => ⟨S_, .i32⟩
  | .hbm, ⟨17, _⟩ => ⟨S_, .i32⟩
  | .hbm, ⟨18, _⟩ => ⟨S1x6144, .i32⟩
  | .hbm, ⟨19, _⟩ => ⟨S1x6144, .i32⟩
  | .hbm, ⟨20, _⟩ => ⟨S1x6144, .i32⟩
  | .hbm, ⟨21, _⟩ => ⟨S_, .i32⟩
  | .hbm, ⟨22, _⟩ => ⟨S1x6144, .i32⟩
  | .hbm, ⟨23, _⟩ => ⟨S1x6144, .i1⟩
  | .hbm, ⟨24, _⟩ => ⟨S1x6144, .i32⟩
  | .hbm, ⟨25, _⟩ => ⟨S1x6144, .i32⟩
  | .hbm, ⟨26, _⟩ => ⟨S_, .i32⟩
  | .hbm, ⟨27, _⟩ => ⟨S1x6144, .i32⟩
  | .hbm, ⟨28, _⟩ => ⟨S1x6144, .i1⟩
  | .hbm, ⟨29, _⟩ => ⟨S1x6144, .i1⟩
  | .hbm, ⟨30, _⟩ => ⟨S_, .i32⟩
  | .hbm, ⟨31, _⟩ => ⟨S1x6144, .i32⟩
  | .hbm, ⟨32, _⟩ => ⟨S1x6144, .i32⟩
  | .hbm, ⟨33, _⟩ => ⟨S1x6144, .i32⟩
  | .hbm, ⟨34, _⟩ => ⟨S8, .i32⟩
  | .hbm, ⟨35, _⟩ => ⟨S8x1, .i32⟩
  | .hbm, ⟨36, _⟩ => ⟨S8x6144, .i32⟩
  | .hbm, ⟨37, _⟩ => ⟨S8x6144, .i32⟩
  | .hbm, ⟨38, _⟩ => ⟨S8x6144, .i1⟩
  | .hbm, ⟨39, _⟩ => ⟨S8x6144, .bf16⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S1x1, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S768x8, .f32⟩
  | .local _ .vmem, ⟨7, _⟩ => ⟨S8x6144, .bf16⟩
  | .local _ .vmem, ⟨8, _⟩ => ⟨S8x768x768, .bf16⟩
  | .local _ .vmem, ⟨9, _⟩ => ⟨S8x768x768, .fp8e4m3⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S1x1, .f32⟩
  | .local _ .vmem, ⟨17, _⟩ => ⟨S1x8, .f32⟩
  | .local _ .vmem, ⟨18, _⟩ => ⟨S1x8, .f32⟩
  | .local _ .vmem, ⟨19, _⟩ => ⟨S8x2, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v352 : BitVec 1 := Scalar.cmpi .eq arg0 c7_i32
  let v353 : BitVec 32 := Scalar.extui v352
  let c0_i32_133 : BitVec 32 := 0#32
  let v354 : BitVec 1 := Scalar.cmpi .ne v353 c0_i32_133
  v354

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x768x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2048x768 : Shape := ⟨2, ![2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x4 : Shape := ⟨2, ![2048, 4]⟩
abbrev S2048x4x1 : Shape := ⟨3, ![2048, 4, 1]⟩
abbrev S2048x4x2 : Shape := ⟨3, ![2048, 4, 2]⟩
abbrev S2048x1x1 : Shape := ⟨3, ![2048, 1, 1]⟩
abbrev S2048x1x2 : Shape := ⟨3, ![2048, 1, 2]⟩
abbrev S8x768x2048 : Shape := ⟨3, ![8, 768, 2048]⟩
abbrev S8x2048x768 : Shape := ⟨3, ![8, 2048, 768]⟩
abbrev S8x1x768 : Shape := ⟨3, ![8, 1, 768]⟩
abbrev S1x2048x768 : Shape := ⟨3, ![1, 2048, 768]⟩
abbrev S8x2048 : Shape := ⟨2, ![8, 2048]⟩
abbrev S2048x768x8 : Shape := ⟨3, ![2048, 768, 8]⟩
abbrev S2048x1x8 : Shape := ⟨3, ![2048, 1, 8]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S768x8, .f32⟩
  | 4 => ⟨S8, .f32⟩
  | 5 => ⟨S8x768x768, .f32⟩
  | 6 => ⟨S8x768, .f32⟩
  | 7 => ⟨S8x768x768, .f32⟩
  | 8 => ⟨S8x768, .f32⟩
  | 9 => ⟨S2048x8, .f32⟩
  | 10 => ⟨S1x8, .f32⟩
  | 11 => ⟨S2048x8, .f32⟩
  | 12 => ⟨S2048x8, .f32⟩
  | 13 => ⟨S_, .f32⟩
  | 14 => ⟨S2048, .f32⟩
  | 15 => ⟨S_, .f32⟩
  | 16 => ⟨S2048, .f32⟩
  | 17 => ⟨S2048, .f32⟩
  | 18 => ⟨S2048x1, .f32⟩
  | 19 => ⟨S2048x8, .f32⟩
  | 20 => ⟨S2048x8, .f32⟩
  | 21 => ⟨S2048x8, .f32⟩
  | 22 => ⟨S_, .f32⟩
  | 23 => ⟨S2048, .f32⟩
  | 24 => ⟨S2048x1, .f32⟩
  | 25 => ⟨S2048x8, .f32⟩
  | 26 => ⟨S2048x8, .f32⟩
  | 27 => ⟨S2048x4, .f32⟩
  | 28 => ⟨S2048x4, .i32⟩
  | 29 => ⟨S2048x1, .f32⟩
  | 30 => ⟨S2048x1, .i32⟩
  | 31 => ⟨S2048, .i32⟩
  | 32 => ⟨S2048x1, .i32⟩
  | 33 => ⟨S_, .f32⟩
  | 34 => ⟨S2048x8, .f32⟩
  | 35 => ⟨S_, .i32⟩
  | 36 => ⟨S2048x1, .i32⟩
  | 37 => ⟨S2048x1, .i1⟩
  | 38 => ⟨S_, .i32⟩
  | 39 => ⟨S2048x1, .i32⟩
  | 40 => ⟨S2048x1, .i32⟩
  | 41 => ⟨S2048x1, .i32⟩
  | 42 => ⟨S_, .i32⟩
  | 43 => ⟨S2048x4, .i32⟩
  | 44 => ⟨S2048x4, .i1⟩
  | 45 => ⟨S_, .i32⟩
  | 46 => ⟨S2048x4, .i32⟩
  | 47 => ⟨S2048x4, .i32⟩
  | 48 => ⟨S2048x4, .i32⟩
  | 49 => ⟨S2048x4, .i32⟩
  | 50 => ⟨S2048x4x1, .i32⟩
  | 51 => ⟨S2048x4x1, .i32⟩
  | 52 => ⟨S2048x4x2, .i32⟩
  | 53 => ⟨S_, .f32⟩
  | 54 => ⟨S2048x4, .f32⟩
  | 55 => ⟨S2048x8, .f32⟩
  | 56 => ⟨S_, .f32⟩
  | 57 => ⟨S2048x8, .f32⟩
  | 58 => ⟨S_, .i32⟩
  | 59 => ⟨S2048x1, .i32⟩
  | 60 => ⟨S2048x1, .i1⟩
  | 61 => ⟨S_, .i32⟩
  | 62 => ⟨S2048x1, .i32⟩
  | 63 => ⟨S2048x1, .i32⟩
  | 64 => ⟨S2048x1, .i32⟩
  | 65 => ⟨S_, .i32⟩
  | 66 => ⟨S2048x1, .i32⟩
  | 67 => ⟨S2048x1, .i1⟩
  | 68 => ⟨S_, .i32⟩
  | 69 => ⟨S2048x1, .i32⟩
  | 70 => ⟨S2048x1, .i32⟩
  | 71 => ⟨S2048x1, .i32⟩
  | 72 => ⟨S2048x1x1, .i32⟩
  | 73 => ⟨S2048x1x1, .i32⟩
  | 74 => ⟨S2048x1x2, .i32⟩
  | 75 => ⟨S_, .f32⟩
  | 76 => ⟨S2048x1, .f32⟩
  | 77 => ⟨S2048x8, .f32⟩
  | 78 => ⟨S2048x8, .f32⟩
  | 79 => ⟨S2048x8, .f32⟩
  | 80 => ⟨S_, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S_, .f32⟩
  | 88 => ⟨S8, .f32⟩
  | 89 => ⟨S8, .f32⟩
  | 90 => ⟨S8, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8x768x2048, .f32⟩
  | 98 => ⟨S8x2048x768, .f32⟩
  | 99 => ⟨S8x1x768, .f32⟩
  | 100 => ⟨S8x2048x768, .f32⟩
  | 101 => ⟨S8x2048x768, .f32⟩
  | 102 => ⟨S1x2048x768, .f32⟩
  | 103 => ⟨S8x2048x768, .f32⟩
  | 104 => ⟨S8x2048x768, .f32⟩
  | 105 => ⟨S8x768x2048, .f32⟩
  | 106 => ⟨S8x2048x768, .f32⟩
  | 107 => ⟨S8x1x768, .f32⟩
  | 108 => ⟨S8x2048x768, .f32⟩
  | 109 => ⟨S8x2048x768, .f32⟩
  | 110 => ⟨S_, .f32⟩
  | 111 => ⟨S8x2048x768, .f32⟩
  | 112 => ⟨S8x2048x768, .f32⟩
  | 113 => ⟨S8x2048x768, .f32⟩
  | 114 => ⟨S8x2048x768, .f32⟩
  | 115 => ⟨S8x2048x768, .f32⟩
  | 116 => ⟨S8x2048x768, .f32⟩
  | 117 => ⟨S8x2048x768, .f32⟩
  | 118 => ⟨S_, .f32⟩
  | 119 => ⟨S8x2048x768, .f32⟩
  | 120 => ⟨S8x2048x768, .f32⟩
  | 121 => ⟨S_, .f32⟩
  | 122 => ⟨S8x2048, .f32⟩
  | 123 => ⟨S_, .f32⟩
  | 124 => ⟨S8, .f32⟩
  | 125 => ⟨S_, .f32⟩
  | 126 => ⟨S8, .f32⟩
  | 127 => ⟨S8, .f32⟩
  | _ => ⟨S2048x768, .f32⟩

abbrev hbmTy0_1 (i : Nat) : BufTy := match i % 128 with
  | 0 => ⟨S8x2048x768, .f32⟩
  | 1 => ⟨S8x768x2048, .f32⟩
  | 2 => ⟨S8x2048x768, .f32⟩
  | 3 => ⟨S8x1x768, .f32⟩
  | 4 => ⟨S8x2048x768, .f32⟩
  | 5 => ⟨S8x2048x768, .f32⟩
  | 6 => ⟨S1x2048x768, .f32⟩
  | 7 => ⟨S8x2048x768, .f32⟩
  | 8 => ⟨S8x2048x768, .f32⟩
  | 9 => ⟨S8x768x2048, .f32⟩
  | 10 => ⟨S8x2048x768, .f32⟩
  | 11 => ⟨S8x1x768, .f32⟩
  | 12 => ⟨S8x2048x768, .f32⟩
  | 13 => ⟨S8x2048x768, .f32⟩
  | 14 => ⟨S_, .f32⟩
  | 15 => ⟨S8x2048x768, .f32⟩
  | 16 => ⟨S8x2048x768, .f32⟩
  | 17 => ⟨S8x2048x768, .f32⟩
  | 18 => ⟨S8x2048x768, .f32⟩
  | 19 => ⟨S8x2048x768, .f32⟩
  | 20 => ⟨S8x2048x768, .f32⟩
  | 21 => ⟨S8x2048x768, .f32⟩
  | 22 => ⟨S_, .f32⟩
  | 23 => ⟨S8x2048x768, .f32⟩
  | 24 => ⟨S8x2048x768, .f32⟩
  | 25 => ⟨S_, .f32⟩
  | 26 => ⟨S8x2048, .f32⟩
  | 27 => ⟨S_, .f32⟩
  | 28 => ⟨S8, .f32⟩
  | 29 => ⟨S_, .f32⟩
  | 30 => ⟨S8, .f32⟩
  | 31 => ⟨S8, .f32⟩
  | 32 => ⟨S8x2048x768, .f32⟩
  | 33 => ⟨S8x768x2048, .f32⟩
  | 34 => ⟨S8x2048x768, .f32⟩
  | 35 => ⟨S8x1x768, .f32⟩
  | 36 => ⟨S8x2048x768, .f32⟩
  | 37 => ⟨S8x2048x768, .f32⟩
  | 38 => ⟨S1x2048x768, .f32⟩
  | 39 => ⟨S8x2048x768, .f32⟩
  | 40 => ⟨S8x2048x768, .f32⟩
  | 41 => ⟨S8x768x2048, .f32⟩
  | 42 => ⟨S8x2048x768, .f32⟩
  | 43 => ⟨S8x1x768, .f32⟩
  | 44 => ⟨S8x2048x768, .f32⟩
  | 45 => ⟨S8x2048x768, .f32⟩
  | 46 => ⟨S_, .f32⟩
  | 47 => ⟨S8x2048x768, .f32⟩
  | 48 => ⟨S8x2048x768, .f32⟩
  | 49 => ⟨S8x2048x768, .f32⟩
  | 50 => ⟨S8x2048x768, .f32⟩
  | 51 => ⟨S8x2048x768, .f32⟩
  | 52 => ⟨S8x2048x768, .f32⟩
  | 53 => ⟨S8x2048x768, .f32⟩
  | 54 => ⟨S_, .f32⟩
  | 55 => ⟨S8x2048x768, .f32⟩
  | 56 => ⟨S8x2048x768, .f32⟩
  | 57 => ⟨S_, .f32⟩
  | 58 => ⟨S8x2048, .f32⟩
  | 59 => ⟨S_, .f32⟩
  | 60 => ⟨S8, .f32⟩
  | 61 => ⟨S_, .f32⟩
  | 62 => ⟨S8, .f32⟩
  | 63 => ⟨S8, .f32⟩
  | 64 => ⟨S8x2048x768, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S8x2048, .f32⟩
  | 72 => ⟨S2048x8, .f32⟩
  | 73 => ⟨S2048x8, .f32⟩
  | 74 => ⟨S_, .f32⟩
  | 75 => ⟨S2048, .f32⟩
  | 76 => ⟨S_, .f32⟩
  | 77 => ⟨S_, .f32⟩
  | 78 => ⟨S_, .f32⟩
  | 79 => ⟨S_, .f32⟩
  | 80 => ⟨S_, .f32⟩
  | 81 => ⟨S2048x768x8, .f32⟩
  | 82 => ⟨S2048x768x8, .f32⟩
  | 83 => ⟨S2048x768x8, .f32⟩
  | 84 => ⟨S2048x1x8, .f32⟩
  | 85 => ⟨S2048x768x8, .f32⟩
  | 86 => ⟨S2048x768x8, .f32⟩
  | 87 => ⟨S_, .f32⟩
  | 88 => ⟨S2048x768, .f32⟩
  | 89 => ⟨S2048x1x8, .f32⟩
  | 90 => ⟨S2048x768x8, .f32⟩
  | 91 => ⟨S2048x768x8, .f32⟩
  | 92 => ⟨S_, .f32⟩
  | 93 => ⟨S2048x768, .f32⟩
  | 94 => ⟨S2048x1x8, .f32⟩
  | 95 => ⟨S2048x768x8, .f32⟩
  | 96 => ⟨S2048x768x8, .f32⟩
  | 97 => ⟨S_, .f32⟩
  | 98 => ⟨S2048x768, .f32⟩
  | 99 => ⟨S1x1, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_values_2 : Ref sig .tc := ⟨.hbm, 29, rfl⟩
abbrev main_indices_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_cst_20 : Ref sig .tc := ⟨.hbm, 93, rfl⟩
abbrev main_v60 : Ref sig .tc := ⟨.hbm, 94, rfl⟩
abbrev main_cst_21 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_22 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_23 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_v84 : Ref sig .tc := ⟨.hbm, 122, rfl⟩
abbrev main_cst_25 : Ref sig .tc := ⟨.hbm, 123, rfl⟩
abbrev main_v85 : Ref sig .tc := ⟨.hbm, 124, rfl⟩
abbrev main_cst_26 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_27 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_28 : Ref sig .tc := ⟨.hbm, 150, rfl⟩
abbrev main_v109 : Ref sig .tc := ⟨.hbm, 151, rfl⟩
abbrev main_v110 : Ref sig .tc := ⟨.hbm, 152, rfl⟩
abbrev main_cst_29 : Ref sig .tc := ⟨.hbm, 153, rfl⟩
abbrev main_v111 : Ref sig .tc := ⟨.hbm, 154, rfl⟩
abbrev main_cst_30 : Ref sig .tc := ⟨.hbm, 155, rfl⟩
abbrev main_v112 : Ref sig .tc := ⟨.hbm, 156, rfl⟩
abbrev main_cst_31 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_32 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_33 : Ref sig .tc := ⟨.hbm, 182, rfl⟩
abbrev main_v136 : Ref sig .tc := ⟨.hbm, 183, rfl⟩
abbrev main_v137 : Ref sig .tc := ⟨.hbm, 184, rfl⟩
abbrev main_cst_34 : Ref sig .tc := ⟨.hbm, 185, rfl⟩
abbrev main_v138 : Ref sig .tc := ⟨.hbm, 186, rfl⟩
abbrev main_cst_35 : Ref sig .tc := ⟨.hbm, 187, rfl⟩
abbrev main_v139 : Ref sig .tc := ⟨.hbm, 188, rfl⟩
abbrev main_cst_36 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_37 : Ref sig .tc := ⟨.hbm, 193, rfl⟩
abbrev main_v143 : Ref sig .tc := ⟨.hbm, 194, rfl⟩
abbrev main_cst_38 : Ref sig .tc := ⟨.hbm, 195, rfl⟩
abbrev main_v144 : Ref sig .tc := ⟨.hbm, 196, rfl⟩
abbrev main_v145 : Ref sig .tc := ⟨.hbm, 197, rfl⟩
abbrev main_cst_39 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_40 : Ref sig .tc := ⟨.hbm, 202, rfl⟩
abbrev main_v149 : Ref sig .tc := ⟨.hbm, 203, rfl⟩
abbrev main_cst_41 : Ref sig .tc := ⟨.hbm, 204, rfl⟩
abbrev main_v150 : Ref sig .tc := ⟨.hbm, 205, rfl⟩
abbrev main_cst_42 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_43 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_44 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_45 : Ref sig .tc := ⟨.hbm, 225, rfl⟩
abbrev main_v167 : Ref sig .tc := ⟨.hbm, 226, rfl⟩
abbrev main_v168 : Ref sig .tc := ⟨.hbm, 227, rfl⟩

abbrev nD : Nat := 1
abbrev τ : Topo := Topo.v7x

variable {F : FTy → Type} [FloatOps F]
-- ==== Proof.Rank.lean ====
module

public import Idealize.ShloMosaic.Lib.SortPrefix
public import Idealize.ShloMosaic.Lib.Pointwise
public import Idealize.ShloMosaic.PureOps.Ideal.Laws

/-! The four greatest of eight extended reals, ties going to the smaller position, in two readings: by rounds of "the
    maximum, the first position that equals it, that position overwritten with −∞", and by a stable descending sort. -/

@[expose] public section

noncomputable section

namespace Cert.Gate

open Idealize.ShloMosaic

/-- Position `a` comes before position `b`: its entry is greater, or the entries are equal and it stands first. -/
def before (p : Fin 8 → EReal) (a b : Fin 8) : Prop := p b < p a ∨ (p a = p b ∧ a < b)

instance (p : Fin 8 → EReal) (a b : Fin 8) : Decidable (before p a b) := Classical.propDecidable _

/-- The number of positions that come before `e`. -/
def rank (p : Fin 8 → EReal) (e : Fin 8) : ℕ := (Finset.univ.filter fun j => before p j e).card

/-- The 0/1 mask of the `k` positions that come first. -/
def keep (k : ℕ) (p : Fin 8 → EReal) (e : Fin 8) : EReal := if rank p e < k then 1 else 0

/-- No position comes before itself. -/
theorem before_irrefl (p : Fin 8 → EReal) (a : Fin 8) : ¬ before p a a := by
  rintro (h | ⟨_, h⟩)
  · exact lt_irrefl _ h
  · exact lt_irrefl _ h

/-- Coming before is transitive. -/
theorem before_trans (p : Fin 8 → EReal) {a b c : Fin 8} (h₁ : before p a b) (h₂ : before p b c) : before p a c := by
  rcases h₁ with h₁ | ⟨e₁, h₁⟩ <;> rcases h₂ with h₂ | ⟨e₂, h₂⟩
  · exact Or.inl (h₂.trans h₁)
  · exact Or.inl (e₂ ▸ h₁)
  · exact Or.inl (e₁ ▸ h₂)
  · exact Or.inr ⟨e₁.trans e₂, h₁.trans h₂⟩

/-- Of two positions one comes before the other. -/
theorem before_total (p : Fin 8 → EReal) (a b : Fin 8) (h : a ≠ b) : before p a b ∨ before p b a := by
  rcases lt_trichotomy (p a) (p b) with hp | hp | hp
  · exact Or.inr (Or.inl hp)
  · rcases lt_or_gt_of_ne h with hl | hl
    · exact Or.inl (Or.inr ⟨hp, hl⟩)
    · exact Or.inr (Or.inr ⟨hp.symm, hl⟩)
  · exact Or.inl (Or.inl hp)

/-- What comes before has the smaller rank. -/
theorem rank_lt_of_before (p : Fin 8 → EReal) {a b : Fin 8} (h : before p a b) : rank p a < rank p b := by
  unfold rank
  refine Finset.card_lt_card ⟨fun j hj => ?_, fun hs => ?_⟩
  · rw [Finset.mem_filter] at hj ⊢
    exact ⟨hj.1, before_trans p hj.2 h⟩
  · have := hs (x := a) (Finset.mem_filter.mpr ⟨Finset.mem_univ _, h⟩)
    exact before_irrefl p a (Finset.mem_filter.mp this).2

/-- A rank is below eight. -/
theorem rank_lt_eight (p : Fin 8 → EReal) (e : Fin 8) : rank p e < 8 := by
  unfold rank
  refine (Finset.card_lt_card (t := Finset.univ) ⟨Finset.filter_subset _ _, fun hs => ?_⟩).trans_eq (by simp)
  exact before_irrefl p e (Finset.mem_filter.mp (hs (Finset.mem_univ e))).2

/-- Different positions have different ranks. -/
theorem rank_injective (p : Fin 8 → EReal) {a b : Fin 8} (h : rank p a = rank p b) : a = b := by
  by_contra hne
  rcases before_total p a b hne with hb | hb
  · exact (rank_lt_of_before p hb).ne h
  · exact (rank_lt_of_before p hb).ne' h

/-- Every rank below eight is some position's. -/
theorem exists_rank (p : Fin 8 → EReal) (r : ℕ) (hr : r < 8) : ∃ e, rank p e = r := by
  have hinj : Function.Injective fun e : Fin 8 => (⟨rank p e, rank_lt_eight p e⟩ : Fin 8) :=
    fun a b h => rank_injective p (congrArg Fin.val h)
  obtain ⟨e, he⟩ := (Finite.injective_iff_surjective.mp hinj) ⟨r, hr⟩
  exact ⟨e, congrArg Fin.val he⟩

/-- A position comes before another exactly when its rank is smaller. -/
theorem before_iff_rank (p : Fin 8 → EReal) (a b : Fin 8) : before p a b ↔ rank p a < rank p b := by
  refine ⟨rank_lt_of_before p, fun h => ?_⟩
  rcases eq_or_ne a b with rfl | hne
  · exact absurd h (lt_irrefl _)
  · rcases before_total p a b hne with hb | hb
    · exact hb
    · exact absurd (rank_lt_of_before p hb) h.not_gt

/-! ## By rounds -/

/-- The greatest of eight extended reals. -/
def mx (f : Fin 8 → EReal) : EReal := Finset.fold max ⊥ f Finset.univ

/-- No entry exceeds the greatest. -/
theorem le_mx (f : Fin 8 → EReal) (i : Fin 8) : f i ≤ mx f :=
  (Finset.le_fold_max _).mpr (Or.inr ⟨i, Finset.mem_univ i, le_rfl⟩)

/-- An entry that no entry exceeds is the greatest. -/
theorem mx_eq (f : Fin 8 → EReal) (i : Fin 8) (h : ∀ j, f j ≤ f i) : mx f = f i :=
  le_antisymm ((Finset.fold_max_le _).mpr ⟨bot_le, fun j _ => h j⟩) (le_mx f i)

/-- The greatest is one of the entries. -/
theorem exists_mx (f : Fin 8 → EReal) : ∃ i, mx f = f i := by
  obtain ⟨i, _, hi⟩ := Finset.exists_max_image Finset.univ f ⟨0, Finset.mem_univ _⟩
  exact ⟨i, mx_eq f i fun j => hi j (Finset.mem_univ j)⟩

/-- The index word of the first position that holds the maximum, as the least of the index words there. -/
def firstMax (f : Fin 8 → EReal) : BitVec 32 := by
  classical exact Finset.fold IntOp.minsi (2147483647#32) (fun x : Fin 8 => if f x = mx f then BitVec.ofNat 32 x.val else 8#32) Finset.univ

/-- Whether a round selects position `e`. -/
def hit (f : Fin 8 → EReal) (e : Fin 8) : BitVec 1 := IntOp.cmpi .eq (BitVec.ofNat 32 e.val) (firstMax f)

/-- The least index word among the marked positions is that of the first marked position. -/
theorem least_word (b : Fin 8 → Bool) (i : Fin 8) (hi : b i = true) (hlt : ∀ j, j < i → b j = false) :
    Finset.fold IntOp.minsi (2147483647#32) (fun x : Fin 8 => if b x = true then BitVec.ofNat 32 x.val else 8#32) Finset.univ
      = BitVec.ofNat 32 i.val := by
  revert b i
  decide +kernel

/-- The first position that holds the maximum, as an index word. -/
theorem firstMax_eq (f : Fin 8 → EReal) (i : Fin 8) (hi : f i = mx f) (hlt : ∀ j, j < i → f j ≠ mx f) :
    firstMax f = BitVec.ofNat 32 i.val := by
  classical
  have h := least_word (fun x => decide (f x = mx f)) i (decide_eq_true hi) (fun j hj => decide_eq_false (hlt j hj))
  simp only [decide_eq_true_eq] at h
  unfold firstMax
  convert h

/-- Index words are equal exactly when the positions are. -/
theorem word_eq (a b : Fin 8) : IntOp.cmpi .eq (BitVec.ofNat 32 a.val) (BitVec.ofNat 32 b.val) = BitVec.ofBool (decide (a = b)) := by
  revert a b
  decide +kernel

/-- What is left of `p` after the positions of rank below `r` have been overwritten with −∞. -/
def work (p : Fin 8 → EReal) (r : ℕ) (e : Fin 8) : EReal := if rank p e < r then ⊥ else p e

/-- Before the first round nothing has been overwritten. -/
theorem work_zero (p : Fin 8 → EReal) : work p 0 = p := by
  funext e; simp [work]

/-- Round `r` selects the position of rank `r`, if no entry is −∞. -/
theorem hit_work (p : Fin 8 → EReal) (hp : ∀ e, ⊥ < p e) (r : ℕ) (hr : r < 8) (e : Fin 8) :
    hit (work p r) e = BitVec.ofBool (decide (rank p e = r)) := by
  obtain ⟨i, hi⟩ := exists_rank p r hr
  have hwi : work p r i = p i := by unfold work; rw [if_neg (by omega)]
  have hmx : mx (work p r) = work p r i := by
    refine mx_eq _ _ fun j => ?_
    rw [hwi]; unfold work
    split
    · exact bot_le
    · next h =>
      by_contra hlt
      have := rank_lt_of_before p (a := j) (b := i) (Or.inl (not_le.mp hlt))
      omega
  have hfm : firstMax (work p r) = BitVec.ofNat 32 i.val := by
    refine firstMax_eq _ i hmx.symm fun j hj he => ?_
    rw [hmx, hwi] at he
    unfold work at he
    split at he
    · exact (hp i).ne he
    · have := rank_lt_of_before p (a := j) (b := i) (Or.inr ⟨he, hj⟩)
      omega
  unfold hit
  rw [hfm, word_eq]
  refine congrArg BitVec.ofBool (decide_eq_decide.mpr ?_)
  refine ⟨fun h => h ▸ hi, fun h => rank_injective p (h.trans hi.symm)⟩

/-- Overwriting the position that round `r` selects leaves what round `r + 1` starts from. -/
theorem strike_work (p : Fin 8 → EReal) (hp : ∀ e, ⊥ < p e) (r : ℕ) (hr : r < 8) (e : Fin 8) :
    Scalar.select (hit (work p r) e) ⊥ (work p r e) = work p (r + 1) e := by
  rw [hit_work p hp r hr e]
  unfold work
  by_cases h : rank p e = r
  · rw [decide_eq_true h, if_pos (show rank p e < r + 1 by omega)]; rfl
  · rw [decide_eq_false h]
    by_cases h' : rank p e < r
    · rw [if_pos h', if_pos (show rank p e < r + 1 by omega)]; rfl
    · rw [if_neg h', if_neg (show ¬ rank p e < r + 1 by omega)]; rfl

/-! ## By a stable sort -/

/-- The comparator "greater" of a stable sort, with the position deciding between equal entries. -/
def tied (p : Fin 8 → EReal) (a b : Fin 8) : Bool := decide (before p a b)

/-- The comparator is a strict total order. -/
theorem tied_strict (p : Fin 8 → EReal) : StrictTotalBefore (tied p) where
  irrefl a := decide_eq_false (before_irrefl p a)
  trans a b c h₁ h₂ := decide_eq_true (before_trans p (of_decide_eq_true h₁) (of_decide_eq_true h₂))
  total a b h := (before_total p a b h).imp decide_eq_true decide_eq_true

/-- The ordered comparison of two extended reals. -/
theorem greater_iff (x y : EReal) : (Ideal.cmp .ogt x y == 1#1) = decide (y < x) := by
  unfold Ideal.cmp
  by_cases h : y < x <;> simp [h]

/-- Positions taken in ascending order: sorting by "greater" alone or with ties decided by the position is the same,
    an element being inserted among later positions only. -/
theorem stableSort_tied (p : Fin 8 → EReal) (l : List (Fin 8)) (hl : l.Pairwise (· < ·)) :
    stableSort (fun k k' => Ideal.cmp .ogt (p k) (p k') == 1#1) l = stableSort (tied p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [greater_iff]
    refine decide_eq_decide.mpr ⟨Or.inl, ?_⟩
    rintro (h | ⟨_, h⟩)
    · exact h
    · exact absurd h hab.not_gt

/-- A stable descending sort puts the position of rank `i` at place `i`. -/
theorem rank_sortedFrom (p : Fin 8 → EReal) (i : Fin 8) :
    rank p (sortedFrom (fun k k' => Ideal.cmp .ogt (p k) (p k') == 1#1) i) = i.val := by
  have hs : sortedFrom (fun k k' => Ideal.cmp .ogt (p k) (p k') == 1#1) i = sortedFrom (tied p) i := by
    have h : sortPositions 8 (fun k k' => Ideal.cmp .ogt (p k) (p k') == 1#1) = sortPositions 8 (tied p) :=
      stableSort_tied p _ (List.pairwise_lt_finRange 8)
    unfold sortedFrom
    rw [List.get_of_eq h]
    rfl
  choose σ hσ using fun j : Fin 8 => exists_rank p j.val j.isLt
  have key := (tied_strict p).sortedFrom_eq_of_prefix (Nat.le_refl 8) σ
    (fun a b h => Fin.ext (by rw [← hσ a, ← hσ b, h]))
    (fun a b h => decide_eq_false fun hb => by
      have := rank_lt_of_before p hb
      rw [hσ, hσ] at this
      exact absurd h (Fin.not_lt.mpr this.le))
    (fun a q hq => (hq ⟨rank p q, rank_lt_eight p q⟩ (rank_injective p (hσ _))).elim) i
  rw [hs]
  exact (congrArg (rank p) key).trans (hσ i)

end Cert.Gate
-- ==== Proof.Spec.lean ====
module

public import proofs.«01_k».proof.Proof.Rank
public import Idealize.ShloMosaic.Lib.Pointwise
public import Idealize.ShloMosaic.Lib.IdealHost

/-! The mathematics that both programs compute, over extended reals and for any number of tokens: the gate, the two
    projections of a token by an expert, and the quantities that the loss sums. -/

@[expose] public section

noncomputable section

namespace Cert.Gate

open Idealize.ShloMosaic

/-- Every entry is a real number. -/
def IsReal {ι : Type} (f : ι → EReal) : Prop := ∀ i, ∃ r : ℝ, f i = (r : EReal)

abbrev Tokens (N : ℕ) : Type := (⟨2, ![N, 768]⟩ : Shape).Idx → EReal
abbrev GateW : Type := (⟨2, ![768, 8]⟩ : Shape).Idx → EReal
abbrev ExpertW : Type := (⟨3, ![8, 768, 768]⟩ : Shape).Idx → EReal

variable {N : ℕ}

/-- The gate's logit of token `n` for expert `e`. -/
def logit (x : Tokens N) (w : GateW) (n : Fin N) (e : Fin 8) : EReal := ∑ d : Fin 768, x (ix2 n d) * w (ix2 d e)

/-- The softmax of eight logits, the greatest of them subtracted first. -/
def soft (l : Fin 8 → EReal) (e : Fin 8) : EReal := Ideal.div (Ideal.exp (l e - mx l)) (∑ a, Ideal.exp (l a - mx l))

/-- The gate's probability. -/
def prob (x : Tokens N) (w : GateW) (n : Fin N) : Fin 8 → EReal := soft (logit x w n)

/-- The gate's score: the probability where it is among the `k` greatest, else zero. -/
def gate (k : ℕ) (x : Tokens N) (w : GateW) (n : Fin N) (e : Fin 8) : EReal := prob x w n e * keep k (prob x w n) e

/-- The product of a token with an expert's matrix. -/
def proj (x : Tokens N) (m : ExpertW) (n : Fin N) (e : Fin 8) (j : Fin 768) : EReal := ∑ d : Fin 768, x (ix2 n d) * m (ix3 e d j)

/-- The experts' outputs for the tokens `u`, mixed by the gate's scores of the tokens `x`. -/
def mixed (k : ℕ) (x : Tokens N) (w : GateW) (u : Tokens N) (m : ExpertW) (n : Fin N) (j : Fin 768) : EReal :=
  ∑ e, gate k x w n e * (proj u m n e j + u (ix2 n j))

/-- The sum of a token's variances under an expert. -/
def sumVar (x : Tokens N) (v : ExpertW) (n : Fin N) (e : Fin 8) : EReal := ∑ j, Ideal.exp (proj x v n e j)

/-- The sum of a token's squared means under an expert. -/
def sumSq (x : Tokens N) (m : ExpertW) (n : Fin N) (e : Fin 8) : EReal :=
  ∑ j, (proj x m n e j + x (ix2 n j)) * (proj x m n e j + x (ix2 n j))

/-- What a token adds to an expert's divergence, without the constant one of each entry. -/
def klTok (x : Tokens N) (m v : ExpertW) (n : Fin N) (e : Fin 8) : EReal := sumSq x m n e + sumVar x v n e - ∑ j, proj x v n e j

/-! ## Reals among the extended reals -/

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real is adding its negative. -/
theorem sub_coe (a : EReal) (r : ℝ) : a - (r : EReal) = a + ((-r : ℝ) : EReal) := by
  rw [sub_eq_add_neg, EReal.coe_neg]

/-- A sum of terms with real parts: the real parts may be summed apart. -/
theorem sum_add_coe {ι : Type} (s : Finset ι) (f : ι → EReal) (r : ι → ℝ) :
    ∑ i ∈ s, (f i + (r i : EReal)) = ∑ i ∈ s, f i + ((∑ i ∈ s, r i : ℝ) : EReal) := by
  rw [Finset.sum_add_distrib, coe_sum]

/-- A nonnegative real factor distributes over a sum of extended reals. -/
theorem coe_mul_sum {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A nonnegative real factor on the right distributes over a sum of extended reals. -/
theorem sum_mul_coe {ι : Type} (s : Finset ι) (f : ι → EReal) {c : EReal} (h0 : 0 ≤ c) (ht : c ≠ ⊤) :
    (∑ i ∈ s, f i) * c = ∑ i ∈ s, f i * c := by
  rw [mul_comm, coe_mul_sum s f h0 ht]
  exact Finset.sum_congr rfl fun i _ => mul_comm _ _

/-- Finite tokens and gate weights have finite logits. -/
theorem isReal_logit (x : Tokens N) (w : GateW) (hx : IsReal x) (hw : IsReal w) (n : Fin N) : IsReal (logit x w n) := by
  choose xr hx using hx
  choose wr hw using hw
  refine fun e => ⟨∑ d : Fin 768, xr (ix2 n d) * wr (ix2 d e), ?_⟩
  unfold logit
  rw [coe_sum]
  exact Finset.sum_congr rfl fun d _ => by rw [hx, hw, EReal.coe_mul]

/-- Finite tokens and expert weights have finite products. -/
theorem isReal_proj (x : Tokens N) (m : ExpertW) (hx : IsReal x) (hm : IsReal m) (n : Fin N) (e : Fin 8) : IsReal (proj x m n e) := by
  choose xr hx using hx
  choose wr hw using hm
  refine fun j => ⟨∑ d : Fin 768, xr (ix2 n d) * wr (ix3 e d j), ?_⟩
  unfold proj
  rw [coe_sum]
  exact Finset.sum_congr rfl fun d _ => by rw [hx, hw, EReal.coe_mul]

/-- Of real logits the softmax is positive and real. -/
theorem soft_pos (l : Fin 8 → EReal) (hl : IsReal l) (e : Fin 8) : ∃ r : ℝ, 0 < r ∧ soft l e = (r : EReal) := by
  choose lr hl using hl
  obtain ⟨i, hi⟩ := exists_mx l
  have he : ∀ a, Ideal.exp (l a - mx l) = ((Real.exp (lr a - lr i) : ℝ) : EReal) := fun a => by
    rw [hi, hl, hl, ← EReal.coe_sub, Ideal.exp_coe]
  have hs : 0 < ∑ a : Fin 8, Real.exp (lr a - lr i) := Finset.sum_pos (fun a _ => Real.exp_pos _) ⟨0, Finset.mem_univ _⟩
  refine ⟨Real.exp (lr e - lr i) * (1 / ∑ a : Fin 8, Real.exp (lr a - lr i)), mul_pos (Real.exp_pos _) (one_div_pos.mpr hs), ?_⟩
  unfold soft
  simp only [he]
  rw [← coe_sum, Ideal.div_coe hs.ne', ← EReal.coe_mul]

/-- A probability is positive and finite. -/
theorem prob_pos (x : Tokens N) (w : GateW) (hx : IsReal x) (hw : IsReal w) (n : Fin N) (e : Fin 8) :
    ∃ r : ℝ, 0 < r ∧ prob x w n e = (r : EReal) := soft_pos _ (isReal_logit x w hx hw n) e

/-- A probability is above −∞. -/
theorem bot_lt_prob (x : Tokens N) (w : GateW) (hx : IsReal x) (hw : IsReal w) (n : Fin N) (e : Fin 8) : ⊥ < prob x w n e := by
  obtain ⟨r, _, h⟩ := prob_pos x w hx hw n e
  rw [h]; exact EReal.bot_lt_coe r

/-- A score is nonnegative. -/
theorem gate_nonneg (k : ℕ) (x : Tokens N) (w : GateW) (hx : IsReal x) (hw : IsReal w) (n : Fin N) (e : Fin 8) : 0 ≤ gate k x w n e := by
  obtain ⟨r, h0, h⟩ := prob_pos x w hx hw n e
  unfold gate keep
  rw [h]
  split
  · rw [mul_one]; exact_mod_cast h0.le
  · rw [mul_zero]

/-- A score is not +∞. -/
theorem gate_ne_top (k : ℕ) (x : Tokens N) (w : GateW) (hx : IsReal x) (hw : IsReal w) (n : Fin N) (e : Fin 8) : gate k x w n e ≠ ⊤ := by
  obtain ⟨r, h0, h⟩ := prob_pos x w hx hw n e
  unfold gate keep
  rw [h]
  split
  · rw [mul_one]; exact EReal.coe_ne_top r
  · rw [mul_zero]; exact EReal.zero_ne_top

/-- The token itself may be added once, times the sum of the scores, instead of in every expert's term. -/
theorem mixed_split (k : ℕ) (x : Tokens N) (w : GateW) (u : Tokens N) (m : ExpertW) (hx : IsReal x) (hw : IsReal w) (n : Fin N) (j : Fin 768) :
    ∑ e, gate k x w n e * proj u m n e j + u (ix2 n j) * ∑ e, gate k x w n e = mixed k x w u m n j := by
  have h : ∀ e, gate k x w n e * (proj u m n e j + u (ix2 n j)) = gate k x w n e * proj u m n e j + gate k x w n e * u (ix2 n j) := fun e =>
    EReal.left_distrib_of_nonneg_of_ne_top (gate_nonneg k x w hx hw n e) (gate_ne_top k x w hx hw n e) _ _
  have hs : ∀ s : Finset (Fin 8), u (ix2 n j) * ∑ e ∈ s, gate k x w n e = ∑ e ∈ s, gate k x w n e * u (ix2 n j) := fun s => by
    classical
    induction s using Finset.induction_on with
    | empty => simp
    | insert a s ha ih =>
      rw [Finset.sum_insert ha, Finset.sum_insert ha, EReal.left_distrib_of_nonneg (gate_nonneg k x w hx hw n a)
        (Finset.sum_nonneg fun e _ => gate_nonneg k x w hx hw n e), ih, mul_comm]
  unfold mixed
  simp only [h]
  rw [Finset.sum_add_distrib, hs]

/-- A matrix scaled by sixteen and the product scaled back by a sixteenth. -/
theorem proj_scaled (x : Tokens N) (v v' : ExpertW) (hx : IsReal x) (hv : IsReal v) (n : Fin N) (e : Fin 8) (j : Fin 768)
    (h : ∀ i, v' i = v i * ((16 : ℝ) : EReal)) : proj x v' n e j * ((1 / 16 : ℝ) : EReal) = proj x v n e j := by
  choose xr hx using hx
  choose wr hw using hv
  unfold proj
  simp only [h, hx, hw, ← EReal.coe_mul, ← coe_sum]
  rw [EReal.coe_eq_coe_iff, Finset.sum_mul]
  exact Finset.sum_congr rfl fun d _ => by ring

/-! ## Constants -/

/-- The float −∞. -/
theorem word_neg_inf : Ideal.ofBits .f32 0xFF800000#32 = ⊥ := by simp [Ideal.ofBits, Ideal.ieee]
/-- The float 16. -/
theorem word_16 : Ideal.ofBits .f32 0x41800000#32 = ((16 : ℝ) : EReal) := by
  simp [Ideal.ofBits, Ideal.ieee]
  rw [← EReal.coe_mul]; norm_num
/-- The float 1/16. -/
theorem word_inv16 : Ideal.ofBits .f32 0x3D800000#32 = ((1 / 16 : ℝ) : EReal) := by
  simp [Ideal.ofBits, Ideal.ieee]
  rw [← EReal.coe_mul]; norm_num
/-- The float E·N·D, the count of all entries of the experts' outputs. -/
theorem word_ones : Ideal.ofBits .f32 0x4B400000#32 = ((12582912 : ℝ) : EReal) := by
  simp [Ideal.ofBits, Ideal.ieee]
/-- The float 0.5/(N·E). -/
theorem word_kl : Ideal.ofBits .f32 0x38000000#32 = ((1 / 32768 : ℝ) : EReal) := by
  simp [Ideal.ofBits, Ideal.ieee]
  rw [← EReal.coe_mul]; norm_num
/-- The float 1/N. -/
theorem word_unc : Ideal.ofBits .f32 0x3A000000#32 = ((1 / 2048 : ℝ) : EReal) := by
  simp [Ideal.ofBits, Ideal.ieee]
  rw [← EReal.coe_mul]; norm_num
/-- The float E/N². -/
theorem word_aux : Ideal.ofBits .f32 0x36000000#32 = ((1 / 524288 : ℝ) : EReal) := by
  simp [Ideal.ofBits, Ideal.ieee]
  rw [← EReal.coe_mul]; norm_num
/-- The float 2048. -/
theorem word_2048 : Ideal.ofBits .f32 1157627904#32 = ((2048 : ℝ) : EReal) := by
  simp [Ideal.ofBits, Ideal.ieee]
  rw [← EReal.coe_mul]; norm_num
/-- The float 8. -/
theorem word_8 : Ideal.ofBits .f32 1090519040#32 = ((8 : ℝ) : EReal) := by
  simp [Ideal.ofBits, Ideal.ieee]
  rw [← EReal.coe_mul]; norm_num
/-- The float 64. -/
theorem word_64 : Ideal.ofBits .f32 1115684864#32 = ((64 : ℝ) : EReal) := by
  simp [Ideal.ofBits, Ideal.ieee]
  rw [← EReal.coe_mul]; norm_num
/-- The float 2. -/
theorem word_2 : Ideal.ofBits .f32 1073741824#32 = ((2 : ℝ) : EReal) := by
  simp [Ideal.ofBits, Ideal.ieee]
  rw [← EReal.coe_mul]; norm_num

/-! ## The loss -/

/-- The loss as the kernel forms it from its three accumulated tables. -/
def lossSums (kl unc aux : EReal) : EReal :=
  (kl - ((12582912 : ℝ) : EReal)) * ((1 / 32768 : ℝ) : EReal) + unc * ((1 / 2048 : ℝ) : EReal) + aux * ((1 / 524288 : ℝ) : EReal)

/-- The loss as the reference forms it: the balance of the gate, the mean divergence, the mean gated variance. -/
def lossMeans (x : Tokens 2048) (w : GateW) (m v : ExpertW) : EReal :=
  Ideal.div (∑ e : Fin 8, Ideal.div (∑ n, prob x w n e) ((2048 : ℝ) : EReal) * Ideal.div (∑ n, keep 4 (prob x w n) e) ((2048 : ℝ) : EReal))
      ((8 : ℝ) : EReal) * ((64 : ℝ) : EReal)
    + Ideal.div (∑ e : Fin 8, Ideal.div (∑ n, ∑ j, Ideal.div (-(1 + proj x v n e j
          - (proj x m n e j + x (ix2 n j)) * (proj x m n e j + x (ix2 n j)) - Ideal.exp (proj x v n e j))) ((2 : ℝ) : EReal))
        ((2048 : ℝ) : EReal)) ((8 : ℝ) : EReal)
    + Ideal.div (∑ n, ∑ e, sumVar x v n e * gate 4 x w n e) ((2048 : ℝ) : EReal)

/-- A square is not −∞. -/
theorem sq_ne_bot (a : EReal) : a * a ≠ ⊥ := by
  have h : 0 ≤ a * a := by
    rcases le_total 0 a with h | h
    · exact mul_nonneg h h
    · have := mul_nonneg (EReal.neg_nonneg.mpr h) (EReal.neg_nonneg.mpr h)
      rwa [neg_mul_neg] at this
  exact (EReal.bot_lt_zero.trans_le h).ne'

/-- A divergence entry before halving: the square, which may be +∞, and a real part. -/
theorem neg_terms (M : EReal) (hM : M ≠ ⊥) (l ex : ℝ) :
    -(1 + (l : EReal) - M - (ex : EReal)) = M + ((ex - 1 - l : ℝ) : EReal) := by
  induction M with
  | bot => exact absurd rfl hM
  | top =>
    have : (1 : EReal) + (l : EReal) = ((1 + l : ℝ) : EReal) := by push_cast; rfl
    rw [this, sub_eq_add_neg, sub_eq_add_neg, EReal.neg_top, EReal.add_bot, EReal.bot_add, EReal.neg_bot, EReal.top_add_coe]
  | coe a =>
    have : (1 : EReal) = ((1 : ℝ) : EReal) := rfl
    rw [this]
    norm_cast
    ring

/-- The balance term. -/
theorem loss_aux (x : Tokens 2048) (w : GateW) :
    Ideal.div (∑ e : Fin 8, Ideal.div (∑ n, prob x w n e) ((2048 : ℝ) : EReal) * Ideal.div (∑ n, keep 4 (prob x w n) e) ((2048 : ℝ) : EReal))
      ((8 : ℝ) : EReal) * ((64 : ℝ) : EReal)
      = (∑ e, (∑ n, prob x w n e) * ∑ n, keep 4 (prob x w n) e) * ((1 / 524288 : ℝ) : EReal) := by
  simp only [Ideal.div_coe (show (2048 : ℝ) ≠ 0 by norm_num), Ideal.div_coe (show (8 : ℝ) ≠ 0 by norm_num)]
  rw [Finset.sum_congr rfl fun e _ => mul_mul_mul_comm (∑ n, prob x w n e) _ (∑ n, keep 4 (prob x w n) e) _, ← EReal.coe_mul, ← sum_mul_coe Finset.univ _ (by exact_mod_cast (by norm_num : (0 : ℝ) ≤ 1 / 2048 * (1 / 2048))) (EReal.coe_ne_top _),
    mul_assoc, mul_assoc, ← EReal.coe_mul, ← EReal.coe_mul]
  norm_num

/-- The divergence term. -/
theorem loss_kl (x : Tokens 2048) (m v : ExpertW) (hx : IsReal x) (hv : IsReal v) :
    Ideal.div (∑ e : Fin 8, Ideal.div (∑ n, ∑ j, Ideal.div (-(1 + proj x v n e j
          - (proj x m n e j + x (ix2 n j)) * (proj x m n e j + x (ix2 n j)) - Ideal.exp (proj x v n e j))) ((2 : ℝ) : EReal))
        ((2048 : ℝ) : EReal)) ((8 : ℝ) : EReal)
      = ((∑ e, ∑ n, klTok x m v n e) - ((12582912 : ℝ) : EReal)) * ((1 / 32768 : ℝ) : EReal) := by
  choose l hl using fun n e => isReal_proj x v hx hv n e
  have c0 : ∀ c : ℝ, 0 ≤ c → (0 : EReal) ≤ (c : EReal) := fun c h => by exact_mod_cast h
  simp only [Ideal.div_coe (show (2048 : ℝ) ≠ 0 by norm_num), Ideal.div_coe (show (8 : ℝ) ≠ 0 by norm_num),
    Ideal.div_coe (show (2 : ℝ) ≠ 0 by norm_num)]
  have ht : ∀ (n : Fin 2048) (e : Fin 8) (j : Fin 768), -(1 + proj x v n e j
      - (proj x m n e j + x (ix2 n j)) * (proj x m n e j + x (ix2 n j)) - Ideal.exp (proj x v n e j))
      = (proj x m n e j + x (ix2 n j)) * (proj x m n e j + x (ix2 n j)) + ((Real.exp (l n e j) - 1 - l n e j : ℝ) : EReal) := fun n e j => by
    rw [hl, Ideal.exp_coe, neg_terms _ (sq_ne_bot _)]
  have hk : ∀ (n : Fin 2048) (e : Fin 8), klTok x m v n e = sumSq x m n e + ((∑ j, (Real.exp (l n e j) - l n e j) : ℝ) : EReal) := fun n e => by
    unfold klTok sumVar
    simp only [hl, Ideal.exp_coe, ← coe_sum]
    rw [sub_coe, add_assoc, ← EReal.coe_add, ← sub_eq_add_neg, ← Finset.sum_sub_distrib]
  simp only [ht, hk]
  simp only [← sum_mul_coe Finset.univ _ (c0 (1 / 2) (by norm_num)) (EReal.coe_ne_top _),
    ← sum_mul_coe Finset.univ _ (c0 (1 / 2048) (by norm_num)) (EReal.coe_ne_top _), mul_assoc, ← EReal.coe_mul]
  rw [← sum_mul_coe Finset.univ _ (c0 _ (by norm_num)) (EReal.coe_ne_top _), mul_assoc, ← EReal.coe_mul]
  simp only [sum_add_coe]
  rw [sub_coe, add_assoc, ← EReal.coe_add]
  have hr : ∑ e : Fin 8, ∑ n : Fin 2048, ∑ j : Fin 768, (Real.exp (l n e j) - 1 - l n e j)
      = ∑ e : Fin 8, ∑ n : Fin 2048, ∑ j : Fin 768, (Real.exp (l n e j) - l n e j) + -12582912 := by
    have : ∀ n e j, Real.exp (l n e j) - 1 - l n e j = Real.exp (l n e j) - l n e j - 1 := fun n e j => by ring
    simp only [this, Finset.sum_sub_distrib, Finset.sum_const, Finset.card_univ, Fintype.card_fin]
    norm_num
    ring
  rw [hr]
  unfold sumSq
  norm_num

/-- The two forms of the loss agree. -/
theorem loss_eq (x : Tokens 2048) (w : GateW) (m v : ExpertW) (hx : IsReal x) (hv : IsReal v) :
    lossSums (∑ e, ∑ n, klTok x m v n e) (∑ e, ∑ n, gate 4 x w n e * sumVar x v n e)
      (∑ e, (∑ n, prob x w n e) * ∑ n, keep 4 (prob x w n) e) = lossMeans x w m v := by
  unfold lossSums lossMeans
  rw [loss_aux, loss_kl x m v hx hv, Ideal.div_coe (by norm_num), Finset.sum_comm (f := fun e n => gate 4 x w n e * sumVar x v n e)]
  simp only [mul_comm (gate 4 x w _ _)]
  ac_rfl

end Cert.Gate
-- ==== Proof.KerGate.lean ====
module

public import proofs.«01_k».proof.Proof.Gen.KernelIdeal.Value
public import proofs.«01_k».proof.Proof.Spec
public import Idealize.ShloMosaic.Lib.Pipeline.ValueKit
public import Idealize.ShloMosaic.Lib.Pipeline.ReadBack
public import Idealize.ShloMosaic.Lib.Pointwise

/-! The kernel's gate on one block of 256 tokens: the probabilities, the four rounds of selection and the two tables of
    gated scores. -/

@[expose] public section

set_option maxRecDepth 16384

noncomputable section

namespace Cert.Gate

open Cert.KernelIdeal Cert.KernelIdeal.Gen Idealize.ShloMosaic

/-- One round on a block: at each token, whether an expert is the first one with the greatest entry. -/
def vhit (w : FVec Ideal S8x256 .f32) : IVec S8x256 1 :=
  cmpi .eq (iota .tc S8x256 32 [0] iota_S8x256_d0_w32) (broadcastTo S8x256 (shapeCast S1x256 (multiReductionI .minsi [0] S256
    (select (cmpf .oeq w (broadcastTo S8x256 (shapeCast S1x256 (multiReduction .maximumf [0] S256 w 0xFF800000#32 reduces_S8x256_S256 (.inl rfl) rfl)
      shapeCasts_S256_S1x256) broadcasts_S1x256_S8x256)) (iota .tc S8x256 32 [0] iota_S8x256_d0_w32) (broadcast S8x256 8#32))
    2147483647#32 reduces_S8x256_S256 rfl) shapeCasts_S256_S1x256) broadcasts_S1x256_S8x256)

/-- The block with the selected entries overwritten by −∞. -/
def vstrike (w : FVec Ideal S8x256 .f32) : FVec Ideal S8x256 .f32 :=
  select (vhit w) (broadcast S8x256 (Scalar.ofBits .f32 0xFF800000#32 : Ideal .f32)) w

/-- A column of a block, as a function of the expert. -/
abbrev col8 (w : FVec Ideal S8x256 .f32) (r : Fin 256) (e : Fin 8) : EReal := w (ix2 e r)

/-- A round's selection at an entry is that of the token's column. -/
theorem vhit_apply (w : FVec Ideal S8x256 .f32) (e : Fin 8) (r : Fin 256) : vhit w (ix2 e r) = hit (col8 w r) e := by
  unfold vhit
  pointwise
  rw [word_neg_inf]
  unfold hit firstMax mx
  congr!

/-- A round's striking out at an entry is that of the token's column. -/
theorem vstrike_apply (w : FVec Ideal S8x256 .f32) (e : Fin 8) (r : Fin 256) :
    vstrike w (ix2 e r) = Scalar.select (hit (col8 w r) e) ⊥ (w (ix2 e r)) := by
  unfold vstrike
  pointwise [vhit_apply]
  rw [word_neg_inf]

variable (x0 : Vec Ideal S256x768 .f32) (x3 : Vec Ideal S768x8 .f32)

/-- The kernel's softmax, a column per token. -/
theorem ker_prob (e : Fin 8) (r : Fin 256) : k0_pay14 x0 x3 (ix2 e r) = prob x0 x3 r e := by
  pointwise [k0_pay14]
  rw [word_neg_inf]
  rfl

variable (hx : IsReal x0) (hw : IsReal x3)

/-- The block after `r` rounds. -/
def rounds : ℕ → FVec Ideal S8x256 .f32
  | 0 => k0_pay14 x0 x3
  | k + 1 => vstrike (rounds k)

include hx hw in
/-- After `k` rounds a token's column has lost exactly its entries of rank below `k`. -/
theorem rounds_work (k : ℕ) (hk : k < 8) (r : Fin 256) : col8 (rounds x0 x3 k) r = work (prob x0 x3 r) k := by
  induction k with
  | zero =>
    rw [work_zero]
    exact funext fun e => ker_prob x0 x3 e r
  | succ k ih =>
    funext e
    have h := ih (by omega)
    show vstrike (rounds x0 x3 k) (ix2 e r) = _
    rw [vstrike_apply, h, show rounds x0 x3 k (ix2 e r) = work (prob x0 x3 r) k e from congrFun h e,
      strike_work _ (bot_lt_prob x0 x3 hx hw r) k (by omega)]

include hx hw in
/-- Round `k` selects the expert of rank `k`. -/
theorem rounds_hit (k : ℕ) (hk : k < 8) (e : Fin 8) (r : Fin 256) :
    vhit (rounds x0 x3 k) (ix2 e r) = BitVec.ofBool (decide (rank (prob x0 x3 r) e = k)) := by
  rw [vhit_apply, rounds_work x0 x3 hx hw k hk, hit_work _ (bot_lt_prob x0 x3 hx hw r) k hk]

/-- The first selection is that of the unstruck probabilities. -/
theorem pay15_eq : k0_pay15 x0 x3 = vhit (rounds x0 x3 0) := rfl
/-- The mask after the first round. -/
theorem pay16_eq : k0_pay16 x0 x3 = ori (broadcast S8x256 0#1) (vhit (rounds x0 x3 0)) := rfl
/-- The probabilities after the first round. -/
theorem pay17_eq : k0_pay17 x0 x3 = rounds x0 x3 1 := rfl
/-- The mask after four rounds is the union of the four selections, as a float. -/
theorem pay19_eq : k0_pay19 (iota .tc S8x256 32 [0] iota_S8x256_d0_w32) (k0_pay16 x0 x3) (k0_pay17 x0 x3) (k0_pay18 x0 x3)
    = sitofp .f32 (extui 32 (ori (ori (ori (ori (broadcast S8x256 0#1) (vhit (rounds x0 x3 0))) (vhit (rounds x0 x3 1)))
        (vhit (rounds x0 x3 2))) (vhit (rounds x0 x3 3))) natLt_1_32) := rfl

/-- The spreading matrix is read unchanged. -/
theorem pay24_eq (w : Vec Ideal S8x6144 .bf16) : k0_pay24 w = w := by
  funext i; idx_vars i; pointwise [k0_pay24]

/-- The integer zero becomes the float zero. -/
theorem word_to_zero : FloatOps.sitofp (F := Ideal) .f32 (0#32) = (0 : EReal) := by
  show (((0#32 : BitVec 32).toInt : ℝ) : EReal) = 0
  simp
/-- The integer one becomes the float one. -/
theorem word_to_one : FloatOps.sitofp (F := Ideal) .f32 (1#32) = (1 : EReal) := by
  show (((1#32 : BitVec 32).toInt : ℝ) : EReal) = 1
  simp

/-- The disjunction of the first four rounds' selections, as a number. -/
theorem four_rounds (q : ℕ) (w : BitVec 1) (h : w = IntOp.ori (IntOp.ori (IntOp.ori (IntOp.ori 0#1 (BitVec.ofBool (decide (q = 0))))
      (BitVec.ofBool (decide (q = 1)))) (BitVec.ofBool (decide (q = 2)))) (BitVec.ofBool (decide (q = 3)))) :
    FloatOps.sitofp (F := Ideal) .f32 (w.setWidth 32) = (if q < 4 then 1 else 0 : EReal) := by
  subst h
  by_cases h : q < 4
  · rw [if_pos h]
    interval_cases q <;> exact word_to_one
  · rw [if_neg h]
    have h0 : q ≠ 0 := by omega
    have h1 : q ≠ 1 := by omega
    have h2 : q ≠ 2 := by omega
    have h3 : q ≠ 3 := by omega
    rw [decide_eq_false h0, decide_eq_false h1, decide_eq_false h2, decide_eq_false h3]
    exact word_to_zero

/-- One round's selection, as a number. -/
theorem one_round (q : ℕ) :
    FloatOps.sitofp (F := Ideal) .f32 ((BitVec.ofBool (decide (q = 0))).setWidth 32) = (if q < 1 then 1 else 0 : EReal) := by
  by_cases h : q = 0
  · subst h; exact word_to_one
  · rw [if_neg (by omega), decide_eq_false h]; exact word_to_zero

include hx hw in
/-- The kernel's mask of the four greatest probabilities. -/
theorem ker_keep4 (e : Fin 8) (r : Fin 256) :
    k0_pay19 (iota .tc S8x256 32 [0] iota_S8x256_d0_w32) (k0_pay16 x0 x3) (k0_pay17 x0 x3) (k0_pay18 x0 x3) (ix2 e r)
      = keep 4 (prob x0 x3 r) e := by
  rw [pay19_eq]
  pointwise [rounds_hit x0 x3 hx hw 0 (by omega), rounds_hit x0 x3 hx hw 1 (by omega), rounds_hit x0 x3 hx hw 2 (by omega),
    rounds_hit x0 x3 hx hw 3 (by omega)]
  exact four_rounds _ _ rfl

include hx hw in
/-- The kernel's table of top-4 scores. -/
theorem ker_gate4 (r : Fin 256) (e : Fin 8) :
    k0_pay20 (k0_pay14 x0 x3) (iota .tc S8x256 32 [0] iota_S8x256_d0_w32) (k0_pay16 x0 x3) (k0_pay17 x0 x3) (k0_pay18 x0 x3) (ix2 r e)
      = gate 4 x0 x3 r e := by
  pointwise [k0_pay20]
  rw [ker_keep4 x0 x3 hx hw, ker_prob]
  rfl

include hx hw in
/-- The kernel's top-4 score of a token and an expert, where the scores are rounded for the spreading product. -/
theorem ker_gate4' (r : Fin 256) (e : Fin 8) :
    k0_pay22 (k0_pay14 x0 x3) (iota .tc S8x256 32 [0] iota_S8x256_d0_w32) (k0_pay16 x0 x3) (k0_pay17 x0 x3) (k0_pay18 x0 x3) (ix2 r e)
      = gate 4 x0 x3 r e := by
  pointwise [k0_pay22]
  exact ker_gate4 x0 x3 hx hw r e

include hx hw in
/-- The kernel's table of top-1 scores. -/
theorem ker_gate1 (r : Fin 256) (e : Fin 8) : k0_pay23 (k0_pay14 x0 x3) (k0_pay15 x0 x3) (ix2 r e) = gate 1 x0 x3 r e := by
  rw [pay15_eq]
  pointwise [k0_pay23, rounds_hit x0 x3 hx hw 0 (by omega)]
  rw [ker_prob]
  unfold gate keep
  rw [← one_round]

end Cert.Gate
-- ==== Proof.KerOut.lean ====
module

public import proofs.«01_k».proof.Proof.KerGate

/-! One block of 256 tokens: what the kernel's body computes from its input blocks, as composed vector operations, and
    each of these values read at an index. -/

@[expose] public section

set_option maxRecDepth 16384

noncomputable section

namespace Cert.Gate

open Cert.KernelIdeal Cert.KernelIdeal.Gen Idealize.ShloMosaic

/-- The matrix of expert `e`, as a load of one slab of the stacked matrices. -/
abbrev slab {t : EltTy} (x : Vec Ideal S8x768x768 t) (e : ℕ)
    (h : ∀ a, (![e, 0, 0] : Fin 3 → ℕ) a + (![1, 768, 768] : Fin 3 → ℕ) a ≤ S8x768x768.size a) : Vec Ideal S1x768x768 t :=
  View.ld x (Rect.unit ![e, 0, 0] ![1, 768, 768] h)

/-- One expert's matrix, read from the weights of all experts. -/
theorem slab_apply {t : EltTy} (x : Vec Ideal S8x768x768 t) (e : ℕ)
    (h : ∀ a, (![e, 0, 0] : Fin 3 → ℕ) a + (![1, 768, 768] : Fin 3 → ℕ) a ≤ S8x768x768.size a) (he : e < 8) (a : Fin 1) (d j : Fin 768) :
    View.ld x (Rect.unit ![e, 0, 0] ![1, 768, 768] h) (ix3 a d j) = x (ix3 ⟨e, he⟩ d j) := by
  refine View.ld_unit_apply_of x _ _ h (ix3 a d j) (ix3 ⟨e, he⟩ d j) fun q => ?_
  match q with
  | ⟨0, _⟩ => show e = e + a.val; omega
  | ⟨1, _⟩ => show d.val = 0 + d.val; omega
  | ⟨2, _⟩ => show j.val = 0 + j.val; omega

/-- The block's top-4 scores. -/
def bG4 (x0 : Vec Ideal S256x768 .f32) (x3 : Vec Ideal S768x8 .f32) : FVec Ideal S256x8 .bf16 :=
  k0_pay22 (k0_pay14 x0 x3) (iota .tc S8x256 32 [0] iota_S8x256_d0_w32) (k0_pay16 x0 x3) (k0_pay17 x0 x3) (k0_pay18 x0 x3)
/-- The block's top-1 scores. -/
def bG1 (x0 : Vec Ideal S256x768 .f32) (x3 : Vec Ideal S768x8 .f32) : FVec Ideal S256x8 .bf16 := k0_pay23 (k0_pay14 x0 x3) (k0_pay15 x0 x3)
/-- The top-4 scores spread over each expert's 768 columns. -/
def bS4 (x0 : Vec Ideal S256x768 .f32) (x3 : Vec Ideal S768x8 .f32) (x4 : Vec Ideal S8x6144 .bf16) : FVec Ideal S256x6144 .f32 := k0_pay25 (bG4 x0 x3) (k0_pay24 x4)
/-- The top-1 scores spread over each expert's 768 columns. -/
def bS1 (x0 : Vec Ideal S256x768 .f32) (x3 : Vec Ideal S768x8 .f32) (x4 : Vec Ideal S8x6144 .bf16) : FVec Ideal S256x6144 .f32 := k0_pay26 (bG1 x0 x3) x4
/-- The three token blocks stacked. -/
def bCat (x0 : Vec Ideal S256x768 .f32) (x1 : Vec Ideal S256x768 .f32) (x2 : Vec Ideal S256x768 .f32) : FVec Ideal S768x768 .bf16 := k0_pay28 (k0_pay10 x0) (k0_pay11 x1) (k0_pay12 x2)
/-- The first result's block. -/
def bOx (x0 : Vec Ideal S256x768 .f32) (x1 : Vec Ideal S256x768 .f32) (x2 : Vec Ideal S256x768 .f32) (x3 : Vec Ideal S768x8 .f32) (x4 : Vec Ideal S8x6144 .bf16) (x5 : Vec Ideal S8x768x768 .bf16) : FVec Ideal S256x768 .f32 :=
  k0_pay100 x0 (bS4 x0 x3 x4) (bCat x0 x1 x2) (k0_pay92 x0 (bS4 x0 x3 x4) (bCat x0 x1 x2) (k0_pay72 x0 (bS4 x0 x3 x4)
    (bCat x0 x1 x2) (k0_pay63 x0 (bS4 x0 x3 x4) (bCat x0 x1 x2) (k0_pay46 x0 (bCat x0 x1 x2) (k0_pay35 x0 (k0_pay10
    x0) (k0_pay11 x1) (k0_pay12 x2) (bG4 x0 x3) (k0_pay24 x4) (slab x5 0 inb_S8x768x768_S1x768x768_0_0_0)) (k0_pay38
    (slab x5 1 inb_S8x768x768_S1x768x768_1_0_0)) (k0_pay39 (bG4 x0 x3) (k0_pay24 x4)) (constant S768x768 .f32
    0x00000000#32)) (k0_pay49 (bS4 x0 x3 x4)) (k0_pay52 x0 (bCat x0 x1 x2) (slab x5 2
    inb_S8x768x768_S1x768x768_2_0_0)) (slab x5 3 inb_S8x768x768_S1x768x768_3_0_0)) (slab x5 4
    inb_S8x768x768_S1x768x768_4_0_0)) (k0_pay75 (bS4 x0 x3 x4)) (k0_pay78 x0 (bCat x0 x1 x2) (slab x5 5
    inb_S8x768x768_S1x768x768_5_0_0)) (slab x5 6 inb_S8x768x768_S1x768x768_6_0_0)) (slab x5 7
    inb_S8x768x768_S1x768x768_7_0_0)
/-- The second result's block. -/
def bOy (x0 : Vec Ideal S256x768 .f32) (x1 : Vec Ideal S256x768 .f32) (x2 : Vec Ideal S256x768 .f32) (x3 : Vec Ideal S768x8 .f32) (x4 : Vec Ideal S8x6144 .bf16) (x5 : Vec Ideal S8x768x768 .bf16) : FVec Ideal S256x768 .f32 :=
  k0_pay101 x1 (bS1 x0 x3 x4) (k0_pay27 (bG1 x0 x3)) (bCat x0 x1 x2) (k0_pay84 (k0_pay73 (bS1 x0 x3 x4) (bCat x0 x1
    x2) (k0_pay64 (bS1 x0 x3 x4) (bCat x0 x1 x2) (k0_pay47 (bCat x0 x1 x2) (k0_pay36 (k0_pay10 x0) (k0_pay11 x1)
    (k0_pay12 x2) (bG1 x0 x3) x4 (slab x5 0 inb_S8x768x768_S1x768x768_0_0_0)) (k0_pay38 (slab x5 1
    inb_S8x768x768_S1x768x768_1_0_0)) (k0_pay40 (bG1 x0 x3) x4) (constant S768x768 .f32 0x00000000#32)) (k0_pay50
    (bS1 x0 x3 x4)) (k0_pay51 (bCat x0 x1 x2) (slab x5 2 inb_S8x768x768_S1x768x768_2_0_0)) (slab x5 3
    inb_S8x768x768_S1x768x768_3_0_0)) (slab x5 4 inb_S8x768x768_S1x768x768_4_0_0)) (k0_pay76 (bS1 x0 x3 x4))
    (k0_pay77 (bCat x0 x1 x2) (slab x5 5 inb_S8x768x768_S1x768x768_5_0_0))) (k0_pay93 (bS1 x0 x3 x4) (bCat x0 x1 x2)
    (slab x5 6 inb_S8x768x768_S1x768x768_6_0_0)) (slab x5 7 inb_S8x768x768_S1x768x768_7_0_0)
/-- The third result's block. -/
def bOz (x0 : Vec Ideal S256x768 .f32) (x1 : Vec Ideal S256x768 .f32) (x2 : Vec Ideal S256x768 .f32) (x3 : Vec Ideal S768x8 .f32) (x4 : Vec Ideal S8x6144 .bf16) (x5 : Vec Ideal S8x768x768 .bf16) : FVec Ideal S256x768 .f32 :=
  k0_pay102 x2 (bS1 x0 x3 x4) (k0_pay27 (bG1 x0 x3)) (bCat x0 x1 x2) (k0_pay85 (k0_pay74 (bS1 x0 x3 x4) (bCat x0 x1
    x2) (k0_pay65 (bS1 x0 x3 x4) (bCat x0 x1 x2) (k0_pay48 (bCat x0 x1 x2) (k0_pay37 (k0_pay10 x0) (k0_pay11 x1)
    (k0_pay12 x2) (bG1 x0 x3) x4 (slab x5 0 inb_S8x768x768_S1x768x768_0_0_0)) (k0_pay38 (slab x5 1
    inb_S8x768x768_S1x768x768_1_0_0)) (k0_pay40 (bG1 x0 x3) x4) (constant S768x768 .f32 0x00000000#32)) (k0_pay50
    (bS1 x0 x3 x4)) (k0_pay51 (bCat x0 x1 x2) (slab x5 2 inb_S8x768x768_S1x768x768_2_0_0)) (slab x5 3
    inb_S8x768x768_S1x768x768_3_0_0)) (slab x5 4 inb_S8x768x768_S1x768x768_4_0_0)) (k0_pay76 (bS1 x0 x3 x4))
    (k0_pay77 (bCat x0 x1 x2) (slab x5 5 inb_S8x768x768_S1x768x768_5_0_0))) (k0_pay86 (bS1 x0 x3 x4)) (k0_pay87 (bCat
    x0 x1 x2) (slab x5 6 inb_S8x768x768_S1x768x768_6_0_0)) (slab x5 7 inb_S8x768x768_S1x768x768_7_0_0)
/-- The block's probabilities and mask, summed over its tokens. -/
def bSums (x0 : Vec Ideal S256x768 .f32) (x3 : Vec Ideal S768x8 .f32) : FVec Ideal S8x2 .f32 :=
  k0_pay21 (k0_pay14 x0 x3) (iota .tc S8x256 32 [0] iota_S8x256_d0_w32) (k0_pay16 x0 x3) (k0_pay17 x0 x3) (k0_pay18 x0 x3)
/-- Expert 0's divergence column. -/
def bKl0 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay34 x0 (k0_pay10 x0) (k0_pay11 x1) (k0_pay12 x2) (k0_pay13 x0) (slab x5 0 inb_S8x768x768_S1x768x768_0_0_0)
    (slab x6 0 inb_S8x768x768_S1x768x768_0_0_0)
/-- Expert 1's divergence column. -/
def bKl1 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay45 x0 (k0_pay13 x0) (bCat x0 x1 x2) (k0_pay38 (slab x5 1 inb_S8x768x768_S1x768x768_1_0_0)) (constant S768x768
    .f32 0x00000000#32) (slab x6 1 inb_S8x768x768_S1x768x768_1_0_0)
/-- Expert 2's divergence column. -/
def bKl2 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay56 (k0_pay53 (k0_pay13 x0) (slab x6 2 inb_S8x768x768_S1x768x768_2_0_0)) (k0_pay54 (k0_pay13 x0) (slab x6 2
    inb_S8x768x768_S1x768x768_2_0_0)) (k0_pay55 x0 (bCat x0 x1 x2) (slab x5 2 inb_S8x768x768_S1x768x768_2_0_0))
/-- Expert 3's divergence column. -/
def bKl3 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay62 x0 (k0_pay13 x0) (bCat x0 x1 x2) (slab x5 3 inb_S8x768x768_S1x768x768_3_0_0) (slab x6 3
    inb_S8x768x768_S1x768x768_3_0_0)
/-- Expert 4's divergence column. -/
def bKl4 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay71 x0 (k0_pay13 x0) (bCat x0 x1 x2) (slab x5 4 inb_S8x768x768_S1x768x768_4_0_0) (slab x6 4
    inb_S8x768x768_S1x768x768_4_0_0)
/-- Expert 5's divergence column. -/
def bKl5 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay83 (k0_pay78 x0 (bCat x0 x1 x2) (slab x5 5 inb_S8x768x768_S1x768x768_5_0_0)) (k0_pay79 (k0_pay13 x0) (slab x6
    5 inb_S8x768x768_S1x768x768_5_0_0)) k0_pay80
/-- Expert 6's divergence column. -/
def bKl6 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay91 x0 (k0_pay13 x0) (bCat x0 x1 x2) (slab x5 6 inb_S8x768x768_S1x768x768_6_0_0) (slab x6 6
    inb_S8x768x768_S1x768x768_6_0_0)
/-- Expert 7's divergence column. -/
def bKl7 (x0 : Vec Ideal S256x768 .f32) (x1 : Vec Ideal S256x768 .f32) (x2 : Vec Ideal S256x768 .f32) (x5 : Vec Ideal S8x768x768 .bf16) (x6 : Vec Ideal S8x768x768 .fp8e4m3) : FVec Ideal S256x1 .f32 :=
  k0_pay99 x0 (k0_pay13 x0) (bCat x0 x1 x2) (slab x5 7 inb_S8x768x768_S1x768x768_7_0_0) (slab x6 7
    inb_S8x768x768_S1x768x768_7_0_0)
/-- Expert 0's variance column. -/
def bRs0 (x0 : Vec Ideal S256x768 .f32) (x6 : Vec Ideal S8x768x768 .fp8e4m3) : FVec Ideal S256x1 .f32 :=
  k0_pay33 (k0_pay13 x0) (slab x6 0 inb_S8x768x768_S1x768x768_0_0_0)
/-- Expert 1's variance column. -/
def bRs1 (x0 : Vec Ideal S256x768 .f32) (x6 : Vec Ideal S8x768x768 .fp8e4m3) : FVec Ideal S256x1 .f32 :=
  k0_pay44 (k0_pay13 x0) (slab x6 1 inb_S8x768x768_S1x768x768_1_0_0)
/-- Expert 2's variance column. -/
def bRs2 (x0 : Vec Ideal S256x768 .f32) (x6 : Vec Ideal S8x768x768 .fp8e4m3) : FVec Ideal S256x1 .f32 :=
  k0_pay54 (k0_pay13 x0) (slab x6 2 inb_S8x768x768_S1x768x768_2_0_0)
/-- Expert 3's variance column. -/
def bRs3 (x0 : Vec Ideal S256x768 .f32) (x6 : Vec Ideal S8x768x768 .fp8e4m3) : FVec Ideal S256x1 .f32 :=
  k0_pay61 (k0_pay13 x0) (slab x6 3 inb_S8x768x768_S1x768x768_3_0_0)
/-- Expert 4's variance column. -/
def bRs4 (x0 : Vec Ideal S256x768 .f32) (x6 : Vec Ideal S8x768x768 .fp8e4m3) : FVec Ideal S256x1 .f32 :=
  k0_pay70 (k0_pay13 x0) (slab x6 4 inb_S8x768x768_S1x768x768_4_0_0)
/-- Expert 5's variance column. -/
def bRs5 (x0 : Vec Ideal S256x768 .f32) (x6 : Vec Ideal S8x768x768 .fp8e4m3) : FVec Ideal S256x1 .f32 :=
  k0_pay82 (k0_pay79 (k0_pay13 x0) (slab x6 5 inb_S8x768x768_S1x768x768_5_0_0)) k0_pay80
/-- Expert 6's variance column. -/
def bRs6 (x0 : Vec Ideal S256x768 .f32) (x6 : Vec Ideal S8x768x768 .fp8e4m3) : FVec Ideal S256x1 .f32 :=
  k0_pay90 (k0_pay13 x0) (slab x6 6 inb_S8x768x768_S1x768x768_6_0_0)
/-- Expert 7's variance column. -/
def bRs7 (x0 : Vec Ideal S256x768 .f32) (x6 : Vec Ideal S8x768x768 .fp8e4m3) : FVec Ideal S256x1 .f32 :=
  k0_pay98 (k0_pay13 x0) (slab x6 7 inb_S8x768x768_S1x768x768_7_0_0)
/-- The block's divergences, summed over its tokens. -/
def bKl (x0 : Vec Ideal S256x768 .f32) (x1 : Vec Ideal S256x768 .f32) (x2 : Vec Ideal S256x768 .f32) (x5 : Vec Ideal S8x768x768 .bf16) (x6 : Vec Ideal S8x768x768 .fp8e4m3) : FVec Ideal S1x8 .f32 :=
  k0_pay1 (bKl0 x0 x1 x2 x5 x6) (bKl1 x0 x1 x2 x5 x6) (bKl2 x0 x1 x2 x5 x6) (bKl3 x0 x1 x2 x5 x6) (bKl4 x0 x1 x2 x5
    x6) (bKl5 x0 x1 x2 x5 x6) (bKl6 x0 x1 x2 x5 x6) (bKl7 x0 x1 x2 x5 x6)
/-- The block's gated variances, summed over its tokens. -/
def bUnc (x0 : Vec Ideal S256x768 .f32) (x3 : Vec Ideal S768x8 .f32) (x6 : Vec Ideal S8x768x768 .fp8e4m3) : FVec Ideal S1x8 .f32 :=
  k0_pay2 (k0_pay20 (k0_pay14 x0 x3) (iota .tc S8x256 32 [0] iota_S8x256_d0_w32) (k0_pay16 x0 x3) (k0_pay17 x0 x3)
    (k0_pay18 x0 x3)) (bRs0 x0 x6) (bRs1 x0 x6) (bRs2 x0 x6) (bRs3 x0 x6) (bRs4 x0 x6) (bRs5 x0 x6) (bRs6 x0 x6)
    (bRs7 x0 x6)

variable (x0 : Vec Ideal S256x768 .f32) (x1 : Vec Ideal S256x768 .f32) (x2 : Vec Ideal S256x768 .f32) (x3 : Vec Ideal S768x8 .f32) (x4 : Vec Ideal S8x6144 .bf16) (x5 : Vec Ideal S8x768x768 .bf16) (x6 : Vec Ideal S8x768x768 .fp8e4m3) (v : ExpertW)
variable (hx : IsReal x0) (hw : IsReal x3) (hv : IsReal v)
variable (hoh : ∀ (e : Fin 8) (q : Fin 6144), x4 (ix2 e q) = if q.val / 768 = e.val then 1 else 0)
variable (h6 : ∀ i, x6 i = v i * ((16 : ℝ) : EReal))

include hoh in
/-- A product with the one-hot spreading matrix picks the expert whose columns hold `q`. -/
theorem spread (g : Fin 8 → EReal) (k : Fin 8) (q : Fin 6144) (h : q.val / 768 = k.val) :
    ∑ e, g e * x4 (ix2 e q) = g k := by
  have : ∀ e : Fin 8, g e * x4 (ix2 e q) = if e = k then g e else 0 := fun e => by
    rw [hoh, h]
    by_cases he : e = k
    · subst he; rw [if_pos rfl, if_pos rfl, mul_one]
    · rw [if_neg (fun h' => he (Fin.ext h'.symm)), if_neg he, mul_zero]
  rw [Finset.sum_congr rfl fun e _ => this e, Finset.sum_ite_eq' Finset.univ k g, if_pos (Finset.mem_univ k)]

include hoh in
/-- The spread scores at column `768 k + j` are expert `k`'s scores. -/
theorem spread_at (f : Vec Ideal S256x8 .bf16) (r : Fin 256) (j : Fin 768) (c k : ℕ) (hk : k < 8) (hc : c = 768 * k)
    (h : c + j.val < 6144) : ∑ e, f (ix2 r e) * x4 (ix2 e ⟨c + j.val, h⟩) = f (ix2 r ⟨k, hk⟩) :=
  spread x4 hoh (fun e => f (ix2 r e)) ⟨k, hk⟩ ⟨c + j.val, h⟩ (by show (c + j.val) / 768 = k; omega)

include hoh in
/-- The spread scores at the first 768 columns are expert 0's scores. -/
theorem spread_zero (f : Vec Ideal S256x8 .bf16) (r : Fin 256) (j : Fin 768) (h : j.val < 6144) :
    ∑ e, f (ix2 r e) * x4 (ix2 e ⟨j.val, h⟩) = f (ix2 r 0) :=
  spread x4 hoh (fun e => f (ix2 r e)) 0 ⟨j.val, h⟩ (by show j.val / 768 = 0; omega)

include hx hw hoh in
/-- The first result's block: the top-4 experts' outputs on the first tokens, mixed by their scores. -/
theorem bOx_apply (r : Fin 256) (j : Fin 768) : bOx x0 x1 x2 x3 x4 x5 (ix2 r j) = mixed 4 x0 x3 x0 x5 r j := by
  have hg : ∀ e, bG4 x0 x3 (ix2 r e) = gate 4 x0 x3 r e := fun e => ker_gate4' x0 x3 hx hw r e
  unfold bOx
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  rw [spread_zero x4 hoh,
    spread_at x4 hoh _ r j 768 1 (by omega) (by omega),
    spread_at x4 hoh _ r j 1536 2 (by omega) (by omega),
    spread_at x4 hoh _ r j 2304 3 (by omega) (by omega),
    spread_at x4 hoh _ r j 3072 4 (by omega) (by omega),
    spread_at x4 hoh _ r j 3840 5 (by omega) (by omega),
    spread_at x4 hoh _ r j 4608 6 (by omega) (by omega),
    spread_at x4 hoh _ r j 5376 7 (by omega) (by omega)]
  simp only [slab_apply x5 0 _ (by omega),
    slab_apply x5 1 _ (by omega),
    slab_apply x5 2 _ (by omega),
    slab_apply x5 3 _ (by omega),
    slab_apply x5 4 _ (by omega),
    slab_apply x5 5 _ (by omega),
    slab_apply x5 6 _ (by omega),
    slab_apply x5 7 _ (by omega), hg]
  unfold mixed
  rw [Fin.sum_univ_eight]
  rfl

include hx hw hoh in
/-- The second result's block: the best expert's output on the second tokens, mixed by its score. -/
theorem bOy_apply (r : Fin 256) (j : Fin 768) : bOy x0 x1 x2 x3 x4 x5 (ix2 r j) = mixed 1 x0 x3 x1 x5 r j := by
  have hg : ∀ e, bG1 x0 x3 (ix2 r e) = gate 1 x0 x3 r e := fun e => ker_gate1 x0 x3 hx hw r e
  rw [← mixed_split 1 x0 x3 x1 x5 hx hw r j]
  unfold bOy
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  rw [spread_zero x4 hoh,
    spread_at x4 hoh _ r j 768 1 (by omega) (by omega),
    spread_at x4 hoh _ r j 1536 2 (by omega) (by omega),
    spread_at x4 hoh _ r j 2304 3 (by omega) (by omega),
    spread_at x4 hoh _ r j 3072 4 (by omega) (by omega),
    spread_at x4 hoh _ r j 3840 5 (by omega) (by omega),
    spread_at x4 hoh _ r j 4608 6 (by omega) (by omega),
    spread_at x4 hoh _ r j 5376 7 (by omega) (by omega)]
  simp only [slab_apply x5 0 _ (by omega),
    slab_apply x5 1 _ (by omega),
    slab_apply x5 2 _ (by omega),
    slab_apply x5 3 _ (by omega),
    slab_apply x5 4 _ (by omega),
    slab_apply x5 5 _ (by omega),
    slab_apply x5 6 _ (by omega),
    slab_apply x5 7 _ (by omega), hg]
  rw [Fin.sum_univ_eight (fun e => gate 1 x0 x3 r e * proj x1 x5 r e j)]
  rfl

include hx hw hoh in
/-- The third result's block: the best expert's output on the third tokens, mixed by its score. -/
theorem bOz_apply (r : Fin 256) (j : Fin 768) : bOz x0 x1 x2 x3 x4 x5 (ix2 r j) = mixed 1 x0 x3 x2 x5 r j := by
  have hg : ∀ e, bG1 x0 x3 (ix2 r e) = gate 1 x0 x3 r e := fun e => ker_gate1 x0 x3 hx hw r e
  rw [← mixed_split 1 x0 x3 x2 x5 hx hw r j]
  unfold bOz
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  have hd : ∀ r : Fin 256, ¬ 512 + r.val < 256 := fun r => by omega
  have hd' : ∀ r : Fin 256, ¬ 512 + r.val - 256 < 256 := fun r => by omega
  have hf : ∀ (r : Fin 256) (h : 512 + r.val - 256 - 256 < 256), (⟨512 + r.val - 256 - 256, h⟩ : Fin 256) = r :=
    fun r h => Fin.ext (by show 512 + r.val - 256 - 256 = r.val; omega)
  simp only [hd, hd', hf, dif_neg, not_false_eq_true]
  rw [spread_zero x4 hoh,
    spread_at x4 hoh _ r j 768 1 (by omega) (by omega),
    spread_at x4 hoh _ r j 1536 2 (by omega) (by omega),
    spread_at x4 hoh _ r j 2304 3 (by omega) (by omega),
    spread_at x4 hoh _ r j 3072 4 (by omega) (by omega),
    spread_at x4 hoh _ r j 3840 5 (by omega) (by omega),
    spread_at x4 hoh _ r j 4608 6 (by omega) (by omega),
    spread_at x4 hoh _ r j 5376 7 (by omega) (by omega)]
  simp only [slab_apply x5 0 _ (by omega),
    slab_apply x5 1 _ (by omega),
    slab_apply x5 2 _ (by omega),
    slab_apply x5 3 _ (by omega),
    slab_apply x5 4 _ (by omega),
    slab_apply x5 5 _ (by omega),
    slab_apply x5 6 _ (by omega),
    slab_apply x5 7 _ (by omega), hg]
  rw [Fin.sum_univ_eight (fun e => gate 1 x0 x3 r e * proj x2 x5 r e j)]
  rfl

include hx hv h6 in
/-- A log-variance column: the product with the scaled matrix, scaled back. -/
theorem scaled_back (r : Fin 256) (e : Fin 8) (j : Fin 768) :
    (∑ d, x0 (ix2 r d) * x6 (ix3 e d j)) * ((1 / 16 : ℝ) : EReal) = proj x0 v r e j :=
  proj_scaled x0 v x6 hx hv r e j h6

include hx hv h6 in
/-- Expert 0's divergence of each token. -/
theorem bKl0_apply (r : Fin 256) (a : Fin 1) : bKl0 x0 x1 x2 x5 x6 (ix2 r a) = klTok x0 x5 v r 0 := by
  obtain rfl : a = 0 := Subsingleton.elim _ _
  unfold bKl0
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 0 _ (by omega), slab_apply x6 0 _ (by omega), word_inv16, scaled_back x0 x6 v hx hv h6]
  rfl

include hx hv h6 in
/-- Expert 0's summed variances of each token. -/
theorem bRs0_apply (r : Fin 256) (a : Fin 1) : bRs0 x0 x6 (ix2 r a) = sumVar x0 v r 0 := by
  obtain rfl : a = 0 := Subsingleton.elim _ _
  unfold bRs0
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 0 _ (by omega), word_inv16, scaled_back x0 x6 v hx hv h6]
  rfl

include hx hv h6 in
/-- Expert 1's divergence of each token. -/
theorem bKl1_apply (r : Fin 256) (a : Fin 1) : bKl1 x0 x1 x2 x5 x6 (ix2 r a) = klTok x0 x5 v r 1 := by
  obtain rfl : a = 0 := Subsingleton.elim _ _
  unfold bKl1
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 1 _ (by omega), slab_apply x6 1 _ (by omega), word_inv16, scaled_back x0 x6 v hx hv h6]
  rfl

include hx hv h6 in
/-- Expert 1's summed variances of each token. -/
theorem bRs1_apply (r : Fin 256) (a : Fin 1) : bRs1 x0 x6 (ix2 r a) = sumVar x0 v r 1 := by
  obtain rfl : a = 0 := Subsingleton.elim _ _
  unfold bRs1
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 1 _ (by omega), word_inv16, scaled_back x0 x6 v hx hv h6]
  rfl

include hx hv h6 in
/-- Expert 2's divergence of each token. -/
theorem bKl2_apply (r : Fin 256) (a : Fin 1) : bKl2 x0 x1 x2 x5 x6 (ix2 r a) = klTok x0 x5 v r 2 := by
  obtain rfl : a = 0 := Subsingleton.elim _ _
  unfold bKl2
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 2 _ (by omega), slab_apply x6 2 _ (by omega), word_inv16, scaled_back x0 x6 v hx hv h6]
  rfl

include hx hv h6 in
/-- Expert 2's summed variances of each token. -/
theorem bRs2_apply (r : Fin 256) (a : Fin 1) : bRs2 x0 x6 (ix2 r a) = sumVar x0 v r 2 := by
  obtain rfl : a = 0 := Subsingleton.elim _ _
  unfold bRs2
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 2 _ (by omega), word_inv16, scaled_back x0 x6 v hx hv h6]
  rfl

include hx hv h6 in
/-- Expert 3's divergence of each token. -/
theorem bKl3_apply (r : Fin 256) (a : Fin 1) : bKl3 x0 x1 x2 x5 x6 (ix2 r a) = klTok x0 x5 v r 3 := by
  obtain rfl : a = 0 := Subsingleton.elim _ _
  unfold bKl3
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 3 _ (by omega), slab_apply x6 3 _ (by omega), word_inv16, scaled_back x0 x6 v hx hv h6]
  rfl

include hx hv h6 in
/-- Expert 3's summed variances of each token. -/
theorem bRs3_apply (r : Fin 256) (a : Fin 1) : bRs3 x0 x6 (ix2 r a) = sumVar x0 v r 3 := by
  obtain rfl : a = 0 := Subsingleton.elim _ _
  unfold bRs3
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 3 _ (by omega), word_inv16, scaled_back x0 x6 v hx hv h6]
  rfl

include hx hv h6 in
/-- Expert 4's divergence of each token. -/
theorem bKl4_apply (r : Fin 256) (a : Fin 1) : bKl4 x0 x1 x2 x5 x6 (ix2 r a) = klTok x0 x5 v r 4 := by
  obtain rfl : a = 0 := Subsingleton.elim _ _
  unfold bKl4
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 4 _ (by omega), slab_apply x6 4 _ (by omega), word_inv16, scaled_back x0 x6 v hx hv h6]
  rfl

include hx hv h6 in
/-- Expert 4's summed variances of each token. -/
theorem bRs4_apply (r : Fin 256) (a : Fin 1) : bRs4 x0 x6 (ix2 r a) = sumVar x0 v r 4 := by
  obtain rfl : a = 0 := Subsingleton.elim _ _
  unfold bRs4
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 4 _ (by omega), word_inv16, scaled_back x0 x6 v hx hv h6]
  rfl

include hx hv h6 in
/-- Expert 5's divergence of each token. -/
theorem bKl5_apply (r : Fin 256) (a : Fin 1) : bKl5 x0 x1 x2 x5 x6 (ix2 r a) = klTok x0 x5 v r 5 := by
  obtain rfl : a = 0 := Subsingleton.elim _ _
  unfold bKl5
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 5 _ (by omega), slab_apply x6 5 _ (by omega), word_inv16, scaled_back x0 x6 v hx hv h6]
  rfl

include hx hv h6 in
/-- Expert 5's summed variances of each token. -/
theorem bRs5_apply (r : Fin 256) (a : Fin 1) : bRs5 x0 x6 (ix2 r a) = sumVar x0 v r 5 := by
  obtain rfl : a = 0 := Subsingleton.elim _ _
  unfold bRs5
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 5 _ (by omega), word_inv16, scaled_back x0 x6 v hx hv h6]
  rfl

include hx hv h6 in
/-- Expert 6's divergence of each token. -/
theorem bKl6_apply (r : Fin 256) (a : Fin 1) : bKl6 x0 x1 x2 x5 x6 (ix2 r a) = klTok x0 x5 v r 6 := by
  obtain rfl : a = 0 := Subsingleton.elim _ _
  unfold bKl6
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 6 _ (by omega), slab_apply x6 6 _ (by omega), word_inv16, scaled_back x0 x6 v hx hv h6]
  rfl

include hx hv h6 in
/-- Expert 6's summed variances of each token. -/
theorem bRs6_apply (r : Fin 256) (a : Fin 1) : bRs6 x0 x6 (ix2 r a) = sumVar x0 v r 6 := by
  obtain rfl : a = 0 := Subsingleton.elim _ _
  unfold bRs6
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 6 _ (by omega), word_inv16, scaled_back x0 x6 v hx hv h6]
  rfl

include hx hv h6 in
/-- Expert 7's divergence of each token. -/
theorem bKl7_apply (r : Fin 256) (a : Fin 1) : bKl7 x0 x1 x2 x5 x6 (ix2 r a) = klTok x0 x5 v r 7 := by
  obtain rfl : a = 0 := Subsingleton.elim _ _
  unfold bKl7
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x5 7 _ (by omega), slab_apply x6 7 _ (by omega), word_inv16, scaled_back x0 x6 v hx hv h6]
  rfl

include hx hv h6 in
/-- Expert 7's summed variances of each token. -/
theorem bRs7_apply (r : Fin 256) (a : Fin 1) : bRs7 x0 x6 (ix2 r a) = sumVar x0 v r 7 := by
  obtain rfl : a = 0 := Subsingleton.elim _ _
  unfold bRs7
  pointwise [bCat, bS4, bS1, k0_pay10, k0_pay11, k0_pay12, k0_pay13, k0_pay24, k0_pay25, k0_pay26, k0_pay27, k0_pay28,
      k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102]
  simp only [slab_apply x6 7 _ (by omega), word_inv16, scaled_back x0 x6 v hx hv h6]
  rfl

include hx hv h6 in
/-- The block's divergences, summed over its tokens, expert by expert. -/
theorem bKl_apply (a : Fin 1) (e : Fin 8) : bKl x0 x1 x2 x5 x6 (ix2 a e) = ∑ r, klTok x0 x5 v r e := by
  unfold bKl
  match e with
  | ⟨0, _⟩ =>
    pointwise [k0_pay1]
    exact Finset.sum_congr rfl fun r _ => bKl0_apply x0 x1 x2 x5 x6 v hx hv h6 r _
  | ⟨1, _⟩ =>
    pointwise [k0_pay1]
    exact Finset.sum_congr rfl fun r _ => bKl1_apply x0 x1 x2 x5 x6 v hx hv h6 r _
  | ⟨2, _⟩ =>
    pointwise [k0_pay1]
    exact Finset.sum_congr rfl fun r _ => bKl2_apply x0 x1 x2 x5 x6 v hx hv h6 r _
  | ⟨3, _⟩ =>
    pointwise [k0_pay1]
    exact Finset.sum_congr rfl fun r _ => bKl3_apply x0 x1 x2 x5 x6 v hx hv h6 r _
  | ⟨4, _⟩ =>
    pointwise [k0_pay1]
    exact Finset.sum_congr rfl fun r _ => bKl4_apply x0 x1 x2 x5 x6 v hx hv h6 r _
  | ⟨5, _⟩ =>
    pointwise [k0_pay1]
    exact Finset.sum_congr rfl fun r _ => bKl5_apply x0 x1 x2 x5 x6 v hx hv h6 r _
  | ⟨6, _⟩ =>
    pointwise [k0_pay1]
    exact Finset.sum_congr rfl fun r _ => bKl6_apply x0 x1 x2 x5 x6 v hx hv h6 r _
  | ⟨7, _⟩ =>
    pointwise [k0_pay1]
    exact Finset.sum_congr rfl fun r _ => bKl7_apply x0 x1 x2 x5 x6 v hx hv h6 r _

include hx hw hv h6 in
/-- The block's variances, weighted by the top-4 scores and summed over its tokens, expert by expert. -/
theorem bUnc_apply (a : Fin 1) (e : Fin 8) : bUnc x0 x3 x6 (ix2 a e) = ∑ r, gate 4 x0 x3 r e * sumVar x0 v r e := by
  unfold bUnc
  match e with
  | ⟨0, _⟩ =>
    pointwise [k0_pay2]
    exact Finset.sum_congr rfl fun r _ =>
      congr (congrArg HMul.hMul (ker_gate4 x0 x3 hx hw r _)) (bRs0_apply x0 x6 v hx hv h6 r _)
  | ⟨1, _⟩ =>
    pointwise [k0_pay2]
    exact Finset.sum_congr rfl fun r _ =>
      congr (congrArg HMul.hMul (ker_gate4 x0 x3 hx hw r _)) (bRs1_apply x0 x6 v hx hv h6 r _)
  | ⟨2, _⟩ =>
    pointwise [k0_pay2]
    exact Finset.sum_congr rfl fun r _ =>
      congr (congrArg HMul.hMul (ker_gate4 x0 x3 hx hw r _)) (bRs2_apply x0 x6 v hx hv h6 r _)
  | ⟨3, _⟩ =>
    pointwise [k0_pay2]
    exact Finset.sum_congr rfl fun r _ =>
      congr (congrArg HMul.hMul (ker_gate4 x0 x3 hx hw r _)) (bRs3_apply x0 x6 v hx hv h6 r _)
  | ⟨4, _⟩ =>
    pointwise [k0_pay2]
    exact Finset.sum_congr rfl fun r _ =>
      congr (congrArg HMul.hMul (ker_gate4 x0 x3 hx hw r _)) (bRs4_apply x0 x6 v hx hv h6 r _)
  | ⟨5, _⟩ =>
    pointwise [k0_pay2]
    exact Finset.sum_congr rfl fun r _ =>
      congr (congrArg HMul.hMul (ker_gate4 x0 x3 hx hw r _)) (bRs5_apply x0 x6 v hx hv h6 r _)
  | ⟨6, _⟩ =>
    pointwise [k0_pay2]
    exact Finset.sum_congr rfl fun r _ =>
      congr (congrArg HMul.hMul (ker_gate4 x0 x3 hx hw r _)) (bRs6_apply x0 x6 v hx hv h6 r _)
  | ⟨7, _⟩ =>
    pointwise [k0_pay2]
    exact Finset.sum_congr rfl fun r _ =>
      congr (congrArg HMul.hMul (ker_gate4 x0 x3 hx hw r _)) (bRs7_apply x0 x6 v hx hv h6 r _)

/-- The block's probabilities, summed over its tokens. -/
theorem bSums_prob (e : Fin 8) : bSums x0 x3 (ix2 e (0 : Fin 2)) = ∑ r, prob x0 x3 r e := by
  unfold bSums
  pointwise [k0_pay21]
  exact Finset.sum_congr rfl fun r _ => ker_prob x0 x3 e r

include hx hw in
/-- How many of the block's tokens have each expert among their four best. -/
theorem bSums_keep (e : Fin 8) : bSums x0 x3 (ix2 e (1 : Fin 2)) = ∑ r, keep 4 (prob x0 x3 r) e := by
  unfold bSums
  pointwise [k0_pay21]
  exact Finset.sum_congr rfl fun r _ => ker_keep4 x0 x3 hx hw e r

end Cert.Gate
-- ==== Proof.KerCase.lean ====
module

public import proofs.«01_k».proof.Proof.KerOut

@[expose] public section

set_option maxRecDepth 16384

noncomputable section

namespace Cert.Gate

open Cert.KernelIdeal Cert.KernelIdeal.Gen Idealize.ShloMosaic Idealize.ShloMosaic.TcCoe Idealize.SL.Sem
variable (c : Dev nD) (i : grid0.Coords)
variable (a1 : Memref sig .tc .vmem S256x768 .f32) (ha1 : a1.IsWhole)
variable (a2 : Memref sig .tc .vmem S256x768 .f32) (ha2 : a2.IsWhole)
variable (a3 : Memref sig .tc .vmem S256x768 .f32) (ha3 : a3.IsWhole)
variable (a4 : Memref sig .tc .vmem S768x8 .f32) (ha4 : a4.IsWhole)
variable (a5 : Memref sig .tc .vmem S8x6144 .bf16) (ha5 : a5.IsWhole)
variable (a6 : Memref sig .tc .vmem S8x768x768 .bf16) (ha6 : a6.IsWhole)
variable (a7 : Memref sig .tc .vmem S8x768x768 .fp8e4m3) (ha7 : a7.IsWhole)
variable (a8 : Memref sig .tc .vmem S256x768 .f32) (ha8 : a8.IsWhole)
variable (a9 : Memref sig .tc .vmem S256x768 .f32) (ha9 : a9.IsWhole)
variable (a10 : Memref sig .tc .vmem S256x768 .f32) (ha10 : a10.IsWhole)
variable (a11 : Memref sig .tc .vmem S1x1 .f32) (ha11 : a11.IsWhole)
variable (a12 : Memref sig .tc .vmem S1x8 .f32) (ha12 : a12.IsWhole)
variable (a13 : Memref sig .tc .vmem S1x8 .f32) (ha13 : a13.IsWhole)
variable (a14 : Memref sig .tc .vmem S8x2 .f32) (ha14 : a14.IsWhole)
variable (x0 : Vec Ideal S256x768 .f32) (x1 : Vec Ideal S256x768 .f32) (x2 : Vec Ideal S256x768 .f32) (x3 : Vec Ideal S768x8 .f32) (x4 : Vec Ideal S8x6144 .bf16) (x5 : Vec Ideal S8x768x768 .bf16) (x6 : Vec Ideal S8x768x768 .fp8e4m3)
variable (s0 : Vec Ideal S1x8 .f32) (s1 : Vec Ideal S1x8 .f32) (s2 : Vec Ideal S8x2 .f32)

/-- The first point stores its divergences. -/
theorem pay3_eq (a0 a1 a2 a3 a4 a5 a6 a7 : FVec Ideal S256x1 .f32) : k0_pay3 a0 a1 a2 a3 a4 a5 a6 a7 = k0_pay1 a0 a1 a2 a3 a4 a5 a6 a7 := by
  funext i; idx_vars i; pointwise [k0_pay3]
/-- The first point stores its gated variances. -/
theorem pay4_eq (g : FVec Ideal S256x8 .f32) (a0 a1 a2 a3 a4 a5 a6 a7 : FVec Ideal S256x1 .f32) :
    k0_pay4 g a0 a1 a2 a3 a4 a5 a6 a7 = k0_pay2 g a0 a1 a2 a3 a4 a5 a6 a7 := by
  funext i; idx_vars i; pointwise [k0_pay4]
/-- The first point stores its sums. -/
theorem pay5_eq (a : FVec Ideal S8x2 .f32) : k0_pay5 a = a := by
  funext i; idx_vars i; pointwise [k0_pay5]
/-- A later point adds its divergences. -/
theorem pay6_eq (a0 a1 a2 a3 a4 a5 a6 a7 : FVec Ideal S256x1 .f32) (s : Vec Ideal S1x8 .f32) :
    k0_pay6 a0 a1 a2 a3 a4 a5 a6 a7 s = addf s (k0_pay1 a0 a1 a2 a3 a4 a5 a6 a7) := by
  funext i; idx_vars i; pointwise [k0_pay6]
/-- A later point adds its gated variances. -/
theorem pay7_eq (g : FVec Ideal S256x8 .f32) (a0 a1 a2 a3 a4 a5 a6 a7 : FVec Ideal S256x1 .f32) (s : Vec Ideal S1x8 .f32) :
    k0_pay7 g a0 a1 a2 a3 a4 a5 a6 a7 s = addf s (k0_pay2 g a0 a1 a2 a3 a4 a5 a6 a7) := by
  funext i; idx_vars i; pointwise [k0_pay7]
/-- A later point adds its sums. -/
theorem pay8_eq (a : FVec Ideal S8x2 .f32) (s : Vec Ideal S8x2 .f32) : k0_pay8 a s = addf s a := by
  funext i; idx_vars i; pointwise [k0_pay8]
/-- The loss from the three accumulators. -/
theorem pay9_apply (p q : Vec Ideal S1x8 .f32) (u w : Vec Ideal S8x1 .f32) (a b : Fin 1) :
    k0_pay9 p q u w (ix2 a b) = lossSums (∑ e, p (ix2 0 e)) (∑ e, q (ix2 0 e)) (∑ e, u (ix2 e 0) * w (ix2 e 0)) := by
  obtain rfl : a = 0 := Subsingleton.elim _ _
  obtain rfl : b = 0 := Subsingleton.elim _ _
  pointwise [k0_pay9]
  rw [word_ones, word_kl, word_unc, word_aux]
  simp only [Finset.univ_unique, Finset.sum_singleton]
  rfl

/-- One of the two columns of the sums, as the body loads it. -/
abbrev column (z : Vec Ideal S8x2 .f32) (k : ℕ) (h : ∀ a, (![0, k] : Fin 2 → ℕ) a + (![8, 1] : Fin 2 → ℕ) a ≤ S8x2.size a) :
    Vec Ideal S8x1 .f32 := View.ld z (Rect.unit ![0, k] ![8, 1] h)

/-- A column read from the table of sums. -/
theorem column_apply (z : Vec Ideal S8x2 .f32) (k : Fin 2)
    (h : ∀ a, (![0, k.val] : Fin 2 → ℕ) a + (![8, 1] : Fin 2 → ℕ) a ≤ S8x2.size a) (e : Fin 8) : column z k.val h (ix2 e 0) = z (ix2 e k) := by
  refine View.ld_unit_apply_of z _ _ h (ix2 e 0) (ix2 e k) fun q => ?_
  match q with
  | ⟨0, _⟩ => show e.val = 0 + e.val; omega
  | ⟨1, _⟩ => show k.val = k.val + 0; omega

/-- At the first point, the first result's block. -/
theorem out7_A (hc0 : cond0_0 i) (hc1 : ¬cond0_1 i) (hc2 : ¬cond0_2 i) :
    out0_A_7 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bOx x0 x1 x2 x3 x4 x5 := by
  frame_out
  rfl

/-- At the first point, the second result's block. -/
theorem out8_A (hc0 : cond0_0 i) (hc1 : ¬cond0_1 i) (hc2 : ¬cond0_2 i) :
    out0_A_8 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bOy x0 x1 x2 x3 x4 x5 := by
  frame_out
  rfl

/-- At the first point, the third result's block. -/
theorem out9_A (hc0 : cond0_0 i) (hc1 : ¬cond0_1 i) (hc2 : ¬cond0_2 i) :
    out0_A_9 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bOz x0 x1 x2 x3 x4 x5 := by
  frame_out
  rfl

/-- At the first point, the accumulated divergences. -/
theorem sout0_A (hc0 : cond0_0 i) (hc1 : ¬cond0_1 i) (hc2 : ¬cond0_2 i) :
    sout0_A_0 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bKl x0 x1 x2 x5 x6 := by
  frame_out
  rw [pay3_eq]
  rfl

/-- At the first point, the accumulated gated variances. -/
theorem sout1_A (hc0 : cond0_0 i) (hc1 : ¬cond0_1 i) (hc2 : ¬cond0_2 i) :
    sout0_A_1 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bUnc x0 x3 x6 := by
  frame_out
  rw [pay4_eq]
  rfl

/-- At the first point, the accumulated sums. -/
theorem sout2_A (hc0 : cond0_0 i) (hc1 : ¬cond0_1 i) (hc2 : ¬cond0_2 i) :
    sout0_A_2 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 = bSums x0 x3 := by
  frame_out
  rw [pay5_eq]
  rfl

/-- At a middle point, the first result's block. -/
theorem out7_B (hc0 : ¬cond0_0 i) (hc1 : cond0_1 i) (hc2 : ¬cond0_2 i) :
    out0_B_7 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOx x0 x1 x2 x3 x4 x5 := by
  frame_out
  rfl

/-- At a middle point, the second result's block. -/
theorem out8_B (hc0 : ¬cond0_0 i) (hc1 : cond0_1 i) (hc2 : ¬cond0_2 i) :
    out0_B_8 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOy x0 x1 x2 x3 x4 x5 := by
  frame_out
  rfl

/-- At a middle point, the third result's block. -/
theorem out9_B (hc0 : ¬cond0_0 i) (hc1 : cond0_1 i) (hc2 : ¬cond0_2 i) :
    out0_B_9 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOz x0 x1 x2 x3 x4 x5 := by
  frame_out
  rfl

/-- At a middle point, the accumulated divergences. -/
theorem sout0_B (hc0 : ¬cond0_0 i) (hc1 : cond0_1 i) (hc2 : ¬cond0_2 i) :
    sout0_B_0 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s0 (bKl x0 x1 x2 x5 x6) := by
  frame_out
  rw [pay6_eq]
  rfl

/-- At a middle point, the accumulated gated variances. -/
theorem sout1_B (hc0 : ¬cond0_0 i) (hc1 : cond0_1 i) (hc2 : ¬cond0_2 i) :
    sout0_B_1 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s1 (bUnc x0 x3 x6) := by
  frame_out
  rw [pay7_eq]
  rfl

/-- At a middle point, the accumulated sums. -/
theorem sout2_B (hc0 : ¬cond0_0 i) (hc1 : cond0_1 i) (hc2 : ¬cond0_2 i) :
    sout0_B_2 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s2 (bSums x0 x3) := by
  frame_out
  rw [pay8_eq]
  rfl

/-- At the last point, the first result's block. -/
theorem out7_C (hc0 : ¬cond0_0 i) (hc1 : cond0_1 i) (hc2 : cond0_2 i) :
    out0_C_7 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOx x0 x1 x2 x3 x4 x5 := by
  frame_out
  rfl

/-- At the last point, the second result's block. -/
theorem out8_C (hc0 : ¬cond0_0 i) (hc1 : cond0_1 i) (hc2 : cond0_2 i) :
    out0_C_8 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOy x0 x1 x2 x3 x4 x5 := by
  frame_out
  rfl

/-- At the last point, the third result's block. -/
theorem out9_C (hc0 : ¬cond0_0 i) (hc1 : cond0_1 i) (hc2 : cond0_2 i) :
    out0_C_9 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = bOz x0 x1 x2 x3 x4 x5 := by
  frame_out
  rfl

/-- At the last point, the accumulated divergences. -/
theorem sout0_C (hc0 : ¬cond0_0 i) (hc1 : cond0_1 i) (hc2 : cond0_2 i) :
    sout0_C_0 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s0 (bKl x0 x1 x2 x5 x6) := by
  frame_out
  rw [pay6_eq]
  rfl

/-- At the last point, the accumulated gated variances. -/
theorem sout1_C (hc0 : ¬cond0_0 i) (hc1 : cond0_1 i) (hc2 : cond0_2 i) :
    sout0_C_1 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s1 (bUnc x0 x3 x6) := by
  frame_out
  rw [pay7_eq]
  rfl

/-- At the last point, the accumulated sums. -/
theorem sout2_C (hc0 : ¬cond0_0 i) (hc1 : cond0_1 i) (hc2 : cond0_2 i) :
    sout0_C_2 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 = addf s2 (bSums x0 x3) := by
  frame_out
  rw [pay8_eq]
  rfl

/-- At the last point, the loss from the accumulated sums. -/
theorem out10_C (hc0 : ¬cond0_0 i) (hc1 : cond0_1 i) (hc2 : cond0_2 i) (a b : Fin 1) :
    out0_C_10 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2 (ix2 a b)
      = lossSums (∑ e, (addf s0 (bKl x0 x1 x2 x5 x6)) (ix2 0 e)) (∑ e, (addf s1 (bUnc x0 x3 x6)) (ix2 0 e))
          (∑ e, (addf s2 (bSums x0 x3)) (ix2 e 0) * (addf s2 (bSums x0 x3)) (ix2 e 1)) := by
  have h : out0_C_10 (F := Ideal) c i a1 ha1 a2 ha2 a3 ha3 a4 ha4 a5 ha5 a6 ha6 a7 ha7 a8 ha8 a9 ha9 a10 ha10 a11 ha11 a12 ha12 a13 ha13 a14 ha14 hc0 hc1 hc2 x0 x1 x2 x3 x4 x5 x6 s0 s1 s2
      = k0_pay9 (addf s0 (bKl x0 x1 x2 x5 x6)) (addf s1 (bUnc x0 x3 x6))
          (column (addf s2 (bSums x0 x3)) 0 inb_S8x2_S8x1_0_0)
          (column (addf s2 (bSums x0 x3)) 1 inb_S8x2_S8x1_0_1) := by
    have hr : ∀ (z : Vec Ideal S8x2 .f32) (k : ℕ) (h : ∀ a, (![0, k] : Fin 2 → ℕ) a + (![8, 1] : Fin 2 → ℕ) a ≤ S8x2.size a),
        a14.view.readCov [⟨Rect.unit ![0, 0] ![8, 2] inb_S8x2_S8x2_0_0, z⟩] (Rect.unit ![0, k] ![8, 1] h).toLoadRect = column z k h :=
      fun z k h => View.readCov_fill _ inb_S8x2_S8x2_0_0 z [] _ (by decide)
    frame_out
    rw [pay6_eq, pay7_eq, pay8_eq]
    exact congr (congrArg _ (hr _ 0 _)) (hr _ 1 _)
  rw [h, pay9_apply]
  refine congrArg _ (Finset.sum_congr rfl fun e _ => ?_)
  have h0 : column (addf s2 (bSums x0 x3)) 0 inb_S8x2_S8x1_0_0 (ix2 e 0) = (addf s2 (bSums x0 x3)) (ix2 e 0) :=
    column_apply _ (0 : Fin 2) inb_S8x2_S8x1_0_0 e
  have h1 : column (addf s2 (bSums x0 x3)) 1 inb_S8x2_S8x1_0_1 (ix2 e 0) = (addf s2 (bSums x0 x3)) (ix2 e 1) :=
    column_apply _ (1 : Fin 2) inb_S8x2_S8x1_0_1 e
  rw [h0, h1]

end Cert.Gate
-- ==== Proof.KerBlocks.lean ====
module

public import proofs.«01_k».proof.Proof.KerCase
public import Idealize.ShloMosaic.Lib.Routing.Words

/-! The arrays behind one block: the tokens' blocks are rows of their arrays, the other operands are whole arrays, three of
    them prepared by the host: the means' matrices (rounded), the log-variances' matrices times 16, and the one-hot
    matrix that spreads a score per expert over that expert's 768 columns. -/

@[expose] public section

set_option maxRecDepth 16384

noncomputable section

namespace Cert.Gate

open Cert.KernelIdeal Cert.KernelIdeal.Gen Idealize.ShloMosaic Idealize.ShloMosaic.TcCoe Idealize.SL.Sem

variable (m : (a : Loc nD τ sig) → Buf (Elt Ideal) a) (c : Dev nD)

/-- The first tokens. -/
abbrev aX : Tokens 2048 := m ((c : Thread nD τ).loc main_arg0)
/-- The second tokens. -/
abbrev aY : Tokens 2048 := m ((c : Thread nD τ).loc main_arg1)
/-- The third tokens. -/
abbrev aZ : Tokens 2048 := m ((c : Thread nD τ).loc main_arg2)
/-- The gate's matrix. -/
abbrev aW : GateW := m ((c : Thread nD τ).loc main_arg3)
/-- The matrices of means. -/
abbrev aM : ExpertW := m ((c : Thread nD τ).loc main_arg5)
/-- The matrices of log-variances. -/
abbrev aV : ExpertW := m ((c : Thread nD τ).loc main_arg7)

/-- Token `r` of block `s`, among all tokens. -/
def row (s : ℕ) (h : s < 8) (r : Fin 256) : Fin 2048 := ⟨256 * s + r.val, by omega⟩

/-- The grid has eight points. -/
theorem lt8 (t : Fin cfg0.N) : t.val < 8 := lt_of_lt_of_eq t.isLt N_0

/-- The block a window reads at each point: the point's own 256 rows, or the whole array. -/
theorem block_index : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0, 0] := by
  decide +kernel

/-! ## What the host prepares -/

/-- The kernel's matrices of means are the argument's, rounded. -/
theorem muw : (V m c main_call0_v0 : FVec Ideal S8x768x768 .bf16)
    = truncf (F := Ideal) .bf16 (m ((c : Thread nD τ).loc main_arg5) : FVec Ideal S8x768x768 .f32) bitsLt_bf16_f32 := by
  entry_read
  rfl

/-- The kernel's matrices of log-variances are the argument's times 16, rounded. -/
theorem lvw : (V m c main_call0_v3 : FVec Ideal S8x768x768 .fp8e4m3)
    = Host.convertf (F := Ideal) .fp8e4m3 (mulf (m ((c : Thread nD τ).loc main_arg7) : FVec Ideal S8x768x768 .f32)
        (broadcastInDim S8x768x768 ![] bcast_S_S8x768x768 (constant S_ .f32 0x41800000#32))) := by
  entry_read
  rfl

/-- The column numbers. -/
def cols : IVec S1x6144 32 := broadcastInDim S1x6144 ![1] bcast_S6144_S1x6144_1 (iotaInDim S6144 32 0)

/-- A literal in every column. -/
def lit (b : BitVec 32) : IVec S1x6144 32 := broadcastInDim S1x6144 ![] bcast_S_S1x6144 (constantI S_ 32 b)

/-- Each column's number divided by 768, rounding down. -/
def group : IVec S1x6144 32 :=
  select (andi (cmpi .ne (signi cols) (broadcastInDim S1x6144 ![] bcast_S_S1x6144 (signi (constantI S_ 32 768#32))))
      (cmpi .ne (Host.remsi cols (lit 768#32)) (lit 0#32)))
    (subi (Host.divsi cols (lit 768#32)) (lit 1#32)) (Host.divsi cols (lit 768#32))

/-- The spreading matrix: whether a column's group is the row. -/
theorem oh_eq : (V m c main_call0_v12 : FVec Ideal S8x6144 .bf16)
    = uitofp (F := Ideal) .bf16 (cmpi .eq (broadcastInDim S8x6144 ![0, 1] bcast_S1x6144_S8x6144_0_1 group)
        (broadcastInDim S8x6144 ![0, 1] bcast_S8x1_S8x6144_0_1 (broadcastInDim S8x1 ![0] bcast_S8_S8x1_0 (iotaInDim S8 32 0)))) := by
  entry_read
  simp only [StableHlo.TRef.ofBuf_toBuf]
  rfl

/-- A column's group is its number divided by 768. -/
theorem group_apply (q : Fin 6144) : group (ix2 0 q) = BitVec.ofNat 32 (q.val / 768) := by
  unfold group
  pointwise [cols, lit]
  have hq := q.isLt
  rw [show (768#32 : BitVec 32) = BitVec.ofNat 32 768 from rfl, Routing.divsi_word .host (by omega) (by omega) (by omega),
    Routing.remsi_word .host (by omega) (by omega) (by omega)]
  have hz : IntOp.andi
        (IntOp.cmpi CmpIPredicate.ne
          (if BitVec.ofNat 32 q.val = 0 then (0 : BitVec 32) else if (BitVec.ofNat 32 q.val).msb = true then -1 else 1)
          (if BitVec.ofNat 32 768 = 0 then (0 : BitVec 32) else if (BitVec.ofNat 32 768).msb = true then -1 else 1))
        (IntOp.cmpi CmpIPredicate.ne (BitVec.ofNat 32 (q.val % 768)) 0#32) = 0#1 := by
    by_cases h0 : q.val = 0
    · rw [h0]; decide
    · have h1 : ¬ BitVec.ofNat 32 q.val = 0 := fun h => h0 (by
        have := congrArg BitVec.toNat h
        rw [BitVec.toNat_ofNat, Nat.mod_eq_of_lt (by omega)] at this
        exact this)
      have h2 : ¬ (BitVec.ofNat 32 q.val).msb = true := by
        rw [BitVec.msb_eq_decide, BitVec.toNat_ofNat, Nat.mod_eq_of_lt (by omega)]
        simp only [decide_eq_true_eq]; omega
      rw [if_neg h1, if_neg h2]
      show (BitVec.ofBool _) &&& _ = 0#1
      rw [show ((1 : BitVec 32) != (if BitVec.ofNat 32 768 = 0 then (0 : BitVec 32) else if (BitVec.ofNat 32 768).msb = true then -1 else 1)) = false by decide]
      exact BitVec.zero_and
  exact congrArg (fun b : BitVec 1 => Scalar.select b (IntOp.subi (BitVec.ofNat 32 (q.val / 768)) 1#32) (BitVec.ofNat 32 (q.val / 768))) hz

/-- The mean weights that the host prepares are the argument's: the cast is the identity. -/
theorem muw_apply (i : S8x768x768.Idx) : (V m c main_call0_v0 : FVec Ideal S8x768x768 .bf16) i = (m ((c : Thread nD τ).loc main_arg5) : FVec Ideal S8x768x768 .f32) i := by
  rw [muw]; rfl

/-- The log-variance weights that the host prepares are sixteen times the argument's. -/
theorem lvw_apply (i : S8x768x768.Idx) : (V m c main_call0_v3 : FVec Ideal S8x768x768 .fp8e4m3) i
    = (show ExpertW from m ((c : Thread nD τ).loc main_arg7)) i * ((16 : ℝ) : EReal) := by
  rw [lvw, ← word_16]; idx_vars i; pointwise

/-- The spreading matrix at an index. -/
theorem oh_apply (e : Fin 8) (q : Fin 6144) : (V m c main_call0_v12 : FVec Ideal S8x6144 .bf16) (ix2 e q) = if q.val / 768 = e.val then (1:EReal) else 0 := by
  rw [oh_eq]
  pointwise [group_apply]
  have hq := q.isLt
  have he := e.isLt
  by_cases h : q.val / 768 = e.val
  · rw [h, if_pos rfl]
    have : IntOp.cmpi CmpIPredicate.eq (BitVec.ofNat 32 e.val) (BitVec.ofNat 32 e.val) = 1#1 := by
      show BitVec.ofBool (_ == _) = 1#1
      rw [beq_self_eq_true]; rfl
    rw [this]
    show (((1#1 : BitVec 1).toNat : ℝ) : EReal) = 1
    simp
  · rw [if_neg h]
    have : IntOp.cmpi CmpIPredicate.eq (BitVec.ofNat 32 (q.val / 768)) (BitVec.ofNat 32 e.val) = 0#1 := by
      show BitVec.ofBool (_ == _) = 0#1
      rw [beq_eq_false_iff_ne.mpr fun h' => h (by
        have := congrArg BitVec.toNat h'
        rwa [BitVec.toNat_ofNat, BitVec.toNat_ofNat, Nat.mod_eq_of_lt (by omega), Nat.mod_eq_of_lt (by omega)] at this)]
      rfl
    rw [this]
    show (((0#1 : BitVec 1).toNat : ℝ) : EReal) = 0
    simp

/-! ## The blocks -/

/-- Block `t` of x holds x's tokens of that block. -/
theorem blk0 (t : Fin cfg0.N) (r : Fin 256) (d : Fin 768) :
    (iblk m c 0 t : Vec Ideal S256x768 .f32) (ix2 r d) = aX m c (ix2 (row t.val (lt8 t) r) d) := by
  unfold row
  blk_ext [iblk, V, block_index t]

/-- Block `t` of y holds y's tokens of that block. -/
theorem blk1 (t : Fin cfg0.N) (r : Fin 256) (d : Fin 768) :
    (iblk m c 1 t : Vec Ideal S256x768 .f32) (ix2 r d) = aY m c (ix2 (row t.val (lt8 t) r) d) := by
  unfold row
  blk_ext [iblk, V, block_index t]

/-- Block `t` of z holds z's tokens of that block. -/
theorem blk2 (t : Fin cfg0.N) (r : Fin 256) (d : Fin 768) :
    (iblk m c 2 t : Vec Ideal S256x768 .f32) (ix2 r d) = aZ m c (ix2 (row t.val (lt8 t) r) d) := by
  unfold row
  blk_ext [iblk, V, block_index t]

/-- Every point sees the whole of the gate's weights. -/
theorem blk3 (t : Fin cfg0.N) (i : S768x8.Idx) : (iblk m c 3 t : Vec Ideal S768x8 .f32) i = aW m c i := by
  idx_vars i
  blk_ext [iblk, V, block_index t]

/-- Every point sees the spreading matrix: column `q` is one at the expert whose slab of 768 columns holds `q`, and zero elsewhere. -/
theorem blk4 (t : Fin cfg0.N) (e : Fin 8) (q : Fin 6144) :
    (iblk m c 4 t : Vec Ideal S8x6144 .bf16) (ix2 e q) = if q.val / 768 = e.val then (1 : EReal) else 0 := by
  rw [← oh_apply m c e q]
  blk_ext [iblk, block_index t]

/-- Every point sees the whole of the mean weights. -/
theorem blk5 (t : Fin cfg0.N) (i : S8x768x768.Idx) : (iblk m c 5 t : Vec Ideal S8x768x768 .bf16) i = aM m c i := by
  refine Eq.trans ?_ (muw_apply m c i)
  idx_vars i
  blk_ext [iblk, block_index t]

/-- Every point sees the whole of the log-variance weights, times sixteen. -/
theorem blk6 (t : Fin cfg0.N) (i : S8x768x768.Idx) :
    (iblk m c 6 t : Vec Ideal S8x768x768 .fp8e4m3) i = aV m c i * ((16 : ℝ) : EReal) := by
  refine Eq.trans ?_ (lvw_apply m c i)
  idx_vars i
  blk_ext [iblk, block_index t]

end Cert.Gate
-- ==== Proof.KerFold.lean ====
module

public import proofs.«01_k».proof.Proof.KerBlocks

/-! The kernel's eight points together: each result's array at an index, and the three accumulators after every point as
    sums over the tokens seen so far; after the last point, the loss. -/

@[expose] public section

set_option maxRecDepth 16384

noncomputable section

namespace Cert.Gate

open Cert.KernelIdeal Cert.KernelIdeal.Gen Cert.KernelIdeal.Value Idealize.ShloMosaic Idealize.ShloMosaic.TcCoe Idealize.SL.Sem

/-! ## A token's values depend on its own row only -/

section Rows

variable {N N' : ℕ} (x : Tokens N) (X : Tokens N') (w W : GateW) (m M : ExpertW) (r : Fin N) (n : Fin N')

/-- Two tokens with equal entries have equal probabilities. -/
theorem prob_row (h : ∀ d, x (ix2 r d) = X (ix2 n d)) (hw : ∀ i, w i = W i) : prob x w r = prob X W n := by
  have : logit x w r = logit X W n := by
    funext e
    unfold logit
    exact Finset.sum_congr rfl fun d _ => by rw [h, hw]
  unfold prob
  rw [this]

/-- Two tokens with equal entries have equal scores. -/
theorem gate_row (k : ℕ) (h : ∀ d, x (ix2 r d) = X (ix2 n d)) (hw : ∀ i, w i = W i) (e : Fin 8) : gate k x w r e = gate k X W n e := by
  unfold gate
  rw [prob_row x X w W r n h hw]

/-- Two tokens with equal entries have equal products with an expert's matrix. -/
theorem proj_row (h : ∀ d, x (ix2 r d) = X (ix2 n d)) (hm : ∀ i, m i = M i) (e : Fin 8) (j : Fin 768) : proj x m r e j = proj X M n e j := by
  unfold proj
  exact Finset.sum_congr rfl fun d _ => by rw [h, hm]

/-- Two tokens with equal entries have equal weighted sums of the experts' outputs. -/
theorem mixed_row (k : ℕ) (u : Tokens N) (U : Tokens N') (h : ∀ d, x (ix2 r d) = X (ix2 n d)) (hu : ∀ d, u (ix2 r d) = U (ix2 n d))
    (hw : ∀ i, w i = W i) (hm : ∀ i, m i = M i) (j : Fin 768) : mixed k x w u m r j = mixed k X W U M n j := by
  unfold mixed
  exact Finset.sum_congr rfl fun e _ => by rw [gate_row x X w W r n k h hw, proj_row u U m M r n hu hm, hu]

/-- Two tokens with equal entries have equal sums of variances. -/
theorem sumVar_row (h : ∀ d, x (ix2 r d) = X (ix2 n d)) (hm : ∀ i, m i = M i) (e : Fin 8) : sumVar x m r e = sumVar X M n e := by
  unfold sumVar
  exact Finset.sum_congr rfl fun j _ => by rw [proj_row x X m M r n h hm]

/-- Two tokens with equal entries add the same to an expert's divergence. -/
theorem klTok_row (v V : ExpertW) (h : ∀ d, x (ix2 r d) = X (ix2 n d)) (hm : ∀ i, m i = M i) (hv : ∀ i, v i = V i) (e : Fin 8) :
    klTok x m v r e = klTok X M V n e := by
  unfold klTok sumSq
  simp only [proj_row x X m M r n h hm, proj_row x X v V r n h hv, sumVar_row x X v V r n h hv, h]

end Rows

variable (m : (a : Loc nD τ sig) → Buf (Elt Ideal) a) (c : Dev nD)
variable (hx : IsReal (aX m c)) (hw : IsReal (aW m c)) (hv : IsReal (aV m c))

include hx in
/-- A block of a finite x is finite. -/
theorem real0 (t : Fin cfg0.N) : IsReal (iblk m c 0 t : Vec Ideal S256x768 .f32) := by
  intro i
  idx_vars i
  obtain ⟨a, ha⟩ := hx (ix2 (row t.val (lt8 t) i0) i1)
  exact ⟨a, (blk0 m c t i0 i1).trans ha⟩

include hw in
/-- The block of a finite gate matrix is finite. -/
theorem real3 (t : Fin cfg0.N) : IsReal (iblk m c 3 t : Vec Ideal S768x8 .f32) := by
  intro i
  obtain ⟨a, ha⟩ := hw i
  exact ⟨a, (blk3 m c t i).trans ha⟩

/-! ## One point -/

/-- The block of everything the body leaves. -/
abbrev St : Type := Vec Ideal S256x768 .f32 × Vec Ideal S256x768 .f32 × Vec Ideal S256x768 .f32 × Vec Ideal S1x1 .f32
  × Vec Ideal S1x8 .f32 × Vec Ideal S1x8 .f32 × Vec Ideal S8x2 .f32

/-- Which of the body's three cases a point is. -/
theorem point_cases (t : Fin cfg0.N) : (t.val % 8 = 0 ∧ ¬1 ≤ t.val ∧ ¬t.val % 8 = 7) ∨ (¬t.val % 8 = 0 ∧ 1 ≤ t.val ∧ ¬t.val % 8 = 7)
    ∨ (¬t.val % 8 = 0 ∧ 1 ≤ t.val ∧ t.val % 8 = 7) := by
  have := lt8 t
  omega

/-- A point leaves in the first result's block what the body computes there from its input blocks, whatever was left before. -/
theorem st_7 (t : Fin cfg0.N) (acc : St) : (stAt0 m c t.val t.isLt acc).1
    = bOx (iblk m c 0 t) (iblk m c 1 t) (iblk m c 2 t) (iblk m c 3 t) (iblk m c 4 t) (iblk m c 5 t) := by
  rcases point_cases t with ⟨h0, h1, h2⟩ | ⟨h0, h1, h2⟩ | ⟨h0, h1, h2⟩
  · rw [stAt0_A m c t acc h0 h1 h2]; dsimp only; exact out7_A ..
  · rw [stAt0_B m c t acc h0 h1 h2]; dsimp only; exact out7_B ..
  · rw [stAt0_C m c t acc h0 h1 h2]; dsimp only; exact out7_C ..

/-- The same of the second result's block. -/
theorem st_8 (t : Fin cfg0.N) (acc : St) : (stAt0 m c t.val t.isLt acc).2.1
    = bOy (iblk m c 0 t) (iblk m c 1 t) (iblk m c 2 t) (iblk m c 3 t) (iblk m c 4 t) (iblk m c 5 t) := by
  rcases point_cases t with ⟨h0, h1, h2⟩ | ⟨h0, h1, h2⟩ | ⟨h0, h1, h2⟩
  · rw [stAt0_A m c t acc h0 h1 h2]; dsimp only; exact out8_A ..
  · rw [stAt0_B m c t acc h0 h1 h2]; dsimp only; exact out8_B ..
  · rw [stAt0_C m c t acc h0 h1 h2]; dsimp only; exact out8_C ..

/-- The same of the third result's block. -/
theorem st_9 (t : Fin cfg0.N) (acc : St) : (stAt0 m c t.val t.isLt acc).2.2.1
    = bOz (iblk m c 0 t) (iblk m c 1 t) (iblk m c 2 t) (iblk m c 3 t) (iblk m c 4 t) (iblk m c 5 t) := by
  rcases point_cases t with ⟨h0, h1, h2⟩ | ⟨h0, h1, h2⟩ | ⟨h0, h1, h2⟩
  · rw [stAt0_A m c t acc h0 h1 h2]; dsimp only; exact out9_A ..
  · rw [stAt0_B m c t acc h0 h1 h2]; dsimp only; exact out9_B ..
  · rw [stAt0_C m c t acc h0 h1 h2]; dsimp only; exact out9_C ..

/-- The first point sets the first accumulator to its own divergences. -/
theorem acc0_first (t : Fin cfg0.N) (acc : St) (h : t.val = 0) : (stAt0 m c t.val t.isLt acc).2.2.2.2.1
    = bKl (iblk m c 0 t) (iblk m c 1 t) (iblk m c 2 t) (iblk m c 5 t) (iblk m c 6 t) := by
  rw [stAt0_A m c t acc (by omega) (by omega) (by omega)]
  dsimp only
  exact sout0_A ..

/-- Every later point adds its own divergences to the first accumulator. -/
theorem acc0_later (t : Fin cfg0.N) (acc : St) (h : t.val ≠ 0) : (stAt0 m c t.val t.isLt acc).2.2.2.2.1
    = addf (acc.2.2.2.2.1) (bKl (iblk m c 0 t) (iblk m c 1 t) (iblk m c 2 t) (iblk m c 5 t) (iblk m c 6 t)) := by
  rcases point_cases t with ⟨h0, h1, h2⟩ | ⟨h0, h1, h2⟩ | ⟨h0, h1, h2⟩
  · omega
  · rw [stAt0_B m c t acc h0 h1 h2]; dsimp only; exact sout0_B ..
  · rw [stAt0_C m c t acc h0 h1 h2]; dsimp only; exact sout0_C ..

/-- The first point sets the second accumulator to its own gated variances. -/
theorem acc1_first (t : Fin cfg0.N) (acc : St) (h : t.val = 0) : (stAt0 m c t.val t.isLt acc).2.2.2.2.2.1
    = bUnc (iblk m c 0 t) (iblk m c 3 t) (iblk m c 6 t) := by
  rw [stAt0_A m c t acc (by omega) (by omega) (by omega)]
  dsimp only
  exact sout1_A ..

/-- Every later point adds its own gated variances to the second accumulator. -/
theorem acc1_later (t : Fin cfg0.N) (acc : St) (h : t.val ≠ 0) : (stAt0 m c t.val t.isLt acc).2.2.2.2.2.1
    = addf (acc.2.2.2.2.2.1) (bUnc (iblk m c 0 t) (iblk m c 3 t) (iblk m c 6 t)) := by
  rcases point_cases t with ⟨h0, h1, h2⟩ | ⟨h0, h1, h2⟩ | ⟨h0, h1, h2⟩
  · omega
  · rw [stAt0_B m c t acc h0 h1 h2]; dsimp only; exact sout1_B ..
  · rw [stAt0_C m c t acc h0 h1 h2]; dsimp only; exact sout1_C ..

/-- The first point sets the third accumulator to its own sums of probabilities and of masks. -/
theorem acc2_first (t : Fin cfg0.N) (acc : St) (h : t.val = 0) : (stAt0 m c t.val t.isLt acc).2.2.2.2.2.2
    = bSums (iblk m c 0 t) (iblk m c 3 t) := by
  rw [stAt0_A m c t acc (by omega) (by omega) (by omega)]
  dsimp only
  exact sout2_A ..

/-- Every later point adds its own sums of probabilities and of masks to the third accumulator. -/
theorem acc2_later (t : Fin cfg0.N) (acc : St) (h : t.val ≠ 0) : (stAt0 m c t.val t.isLt acc).2.2.2.2.2.2
    = addf (acc.2.2.2.2.2.2) (bSums (iblk m c 0 t) (iblk m c 3 t)) := by
  rcases point_cases t with ⟨h0, h1, h2⟩ | ⟨h0, h1, h2⟩ | ⟨h0, h1, h2⟩
  · omega
  · rw [stAt0_B m c t acc h0 h1 h2]; dsimp only; exact sout2_B ..
  · rw [stAt0_C m c t acc h0 h1 h2]; dsimp only; exact sout2_C ..

/-- The last point leaves the loss of the three accumulators as it leaves them. -/
theorem st_10 (t : Fin cfg0.N) (acc : St) (h : t.val = 7) (a b : Fin 1) : (stAt0 m c t.val t.isLt acc).2.2.2.1 (ix2 a b)
    = lossSums (∑ e, (stAt0 m c t.val t.isLt acc).2.2.2.2.1 (ix2 0 e)) (∑ e, (stAt0 m c t.val t.isLt acc).2.2.2.2.2.1 (ix2 0 e))
        (∑ e, (stAt0 m c t.val t.isLt acc).2.2.2.2.2.2 (ix2 e 0) * (stAt0 m c t.val t.isLt acc).2.2.2.2.2.2 (ix2 e 1)) := by
  rw [acc0_later m c t acc (by omega), acc1_later m c t acc (by omega), acc2_later m c t acc (by omega),
    stAt0_C m c t acc (by omega) (by omega) (by omega)]
  dsimp only
  exact out10_C ..

/-! ## All points -/

/-- What the body leaves after the points up to `n`. -/
def after (n : ℕ) (h : n < 8) : St :=
  Pipeline.accAt (fun n h => stAt0 m c n h junk0) (stAt0 m c) 0 n (lt_of_lt_of_eq ((Nat.zero_add n).symm ▸ h) N_0.symm)

/-- The point `n`. -/
def pt (n : ℕ) (h : n < 8) : Fin cfg0.N := ⟨n, lt_of_lt_of_eq h N_0.symm⟩

/-- What the first point leaves. -/
theorem after_zero (h : 0 < 8) : after m c 0 h = stAt0 m c (pt 0 h).val (pt 0 h).isLt junk0 := rfl

/-- What a later point leaves is one step from what the point before it left. -/
theorem after_succ (n : ℕ) (h : n + 1 < 8) :
    after m c (n + 1) h = stAt0 m c (pt (n + 1) h).val (pt (n + 1) h).isLt (after m c n (by omega)) := by
  have same : ∀ (k : ℕ) (hk : k < cfg0.N) (hk' : n + 1 < cfg0.N) (a : St), k = n + 1 → stAt0 m c k hk a = stAt0 m c (n + 1) hk' a :=
    fun k hk hk' a e => by subst e; rfl
  exact same (0 + (n + 1)) _ _ _ (by omega)

/-- After a point the body leaves one step from something. -/
theorem after_step (n : ℕ) (h : n < 8) : ∃ acc : St, after m c n h = stAt0 m c (pt n h).val (pt n h).isLt acc := by
  cases n with
  | zero => exact ⟨junk0, after_zero m c h⟩
  | succ n => exact ⟨_, after_succ m c n h⟩

include hx hw in
/-- After point `n`, the first result's block holds the top-4 mixture of x for the tokens of block `n`. -/
theorem after_7 (n : ℕ) (h : n < 8) (r : Fin 256) (j : Fin 768) :
    (after m c n h).1 (ix2 r j) = mixed 4 (aX m c) (aW m c) (aX m c) (aM m c) (row n h r) j := by
  obtain ⟨acc, ha⟩ := after_step m c n h
  rw [ha, st_7]
  refine (bOx_apply _ _ _ _ _ _ (real0 m c hx _) (real3 m c hw _) (blk4 m c _) r j).trans ?_
  exact mixed_row _ _ _ _ _ _ r (row n h r) 4 _ _ (blk0 m c (pt n h) r) (blk0 m c (pt n h) r) (blk3 m c _) (blk5 m c _) j

include hx hw in
/-- After point `n`, the second result's block holds the top-1 mixture of y for the tokens of block `n`. -/
theorem after_8 (n : ℕ) (h : n < 8) (r : Fin 256) (j : Fin 768) :
    (after m c n h).2.1 (ix2 r j) = mixed 1 (aX m c) (aW m c) (aY m c) (aM m c) (row n h r) j := by
  obtain ⟨acc, ha⟩ := after_step m c n h
  rw [ha, st_8]
  refine (bOy_apply _ _ _ _ _ _ (real0 m c hx _) (real3 m c hw _) (blk4 m c _) r j).trans ?_
  exact mixed_row _ _ _ _ _ _ r (row n h r) 1 _ _ (blk0 m c (pt n h) r) (blk1 m c (pt n h) r) (blk3 m c _) (blk5 m c _) j

include hx hw in
/-- After point `n`, the third result's block holds the top-1 mixture of z for the tokens of block `n`. -/
theorem after_9 (n : ℕ) (h : n < 8) (r : Fin 256) (j : Fin 768) :
    (after m c n h).2.2.1 (ix2 r j) = mixed 1 (aX m c) (aW m c) (aZ m c) (aM m c) (row n h r) j := by
  obtain ⟨acc, ha⟩ := after_step m c n h
  rw [ha, st_9]
  refine (bOz_apply _ _ _ _ _ _ (real0 m c hx _) (real3 m c hw _) (blk4 m c _) r j).trans ?_
  exact mixed_row _ _ _ _ _ _ r (row n h r) 1 _ _ (blk0 m c (pt n h) r) (blk2 m c (pt n h) r) (blk3 m c _) (blk5 m c _) j

/-- The tokens of the eight blocks are all tokens. -/
theorem sum_rows (f : Fin 2048 → EReal) : ∑ s : Fin 8, ∑ r, f (row s.val s.isLt r) = ∑ n, f n := by
  rw [← Fintype.sum_prod_type' (f := fun (s : Fin 8) (r : Fin 256) => f (row s.val s.isLt r))]
  refine Fintype.sum_equiv (finProdFinEquiv (m := 8) (n := 256)) _ _ fun p => congrArg f (Fin.ext ?_)
  show 256 * p.1.val + p.2.val = p.2.val + 256 * p.1.val
  omega

/-- A quantity that the first point sets to a sum over its tokens, and each later point adds such a sum to. -/
theorem fold_sum (p : St → EReal) (f : Fin 2048 → EReal)
    (h0 : ∀ (t : Fin cfg0.N) (acc : St), t.val = 0 → p (stAt0 m c t.val t.isLt acc) = ∑ r, f (row t.val (lt8 t) r))
    (h1 : ∀ (t : Fin cfg0.N) (acc : St), t.val ≠ 0 → p (stAt0 m c t.val t.isLt acc) = p acc + ∑ r, f (row t.val (lt8 t) r)) :
    ∀ (n : ℕ) (h : n < 8), p (after m c n h) = ∑ s : Fin (n + 1), ∑ r, f (row s.val (by omega) r)
  | 0, h => by
    rw [after_zero, h0 _ _ rfl, Fin.sum_univ_one]
    rfl
  | n + 1, h => by
    rw [after_succ, h1 _ _ (Nat.succ_ne_zero n), fold_sum p f h0 h1 n (by omega), Fin.sum_univ_castSucc (n := n + 1)]
    rfl

/-- Such a quantity is, after the last point, the sum over all tokens. -/
theorem fold_all (p : St → EReal) (f : Fin 2048 → EReal)
    (h0 : ∀ (t : Fin cfg0.N) (acc : St), t.val = 0 → p (stAt0 m c t.val t.isLt acc) = ∑ r, f (row t.val (lt8 t) r))
    (h1 : ∀ (t : Fin cfg0.N) (acc : St), t.val ≠ 0 → p (stAt0 m c t.val t.isLt acc) = p acc + ∑ r, f (row t.val (lt8 t) r)) :
    p (after m c 7 (by omega)) = ∑ n, f n := by
  rw [fold_sum m c p f h0 h1, ← sum_rows]

include hx hv in
/-- A point's divergences, as a sum over the tokens of its block. -/
theorem kl_point (t : Fin cfg0.N) (a : Fin 1) (e : Fin 8) :
    bKl (iblk m c 0 t) (iblk m c 1 t) (iblk m c 2 t) (iblk m c 5 t) (iblk m c 6 t) (ix2 a e)
      = ∑ r, klTok (aX m c) (aM m c) (aV m c) (row t.val (lt8 t) r) e :=
  (bKl_apply _ _ _ _ _ (aV m c) (real0 m c hx t) hv (blk6 m c t) a e).trans
    (Finset.sum_congr rfl fun r _ => klTok_row _ _ _ _ r _ _ _ (blk0 m c t r) (blk5 m c t) (fun _ => rfl) e)

include hx hw hv in
/-- A point's gated variances, as a sum over the tokens of its block. -/
theorem unc_point (t : Fin cfg0.N) (a : Fin 1) (e : Fin 8) :
    bUnc (iblk m c 0 t) (iblk m c 3 t) (iblk m c 6 t) (ix2 a e)
      = ∑ r, gate 4 (aX m c) (aW m c) (row t.val (lt8 t) r) e * sumVar (aX m c) (aV m c) (row t.val (lt8 t) r) e :=
  (bUnc_apply _ _ _ (aV m c) (real0 m c hx t) (real3 m c hw t) hv (blk6 m c t) a e).trans
    (Finset.sum_congr rfl fun r _ => congr (congrArg HMul.hMul (gate_row _ _ _ _ r _ 4 (blk0 m c t r) (blk3 m c t) e))
      (sumVar_row _ _ _ _ r _ (blk0 m c t r) (fun _ => rfl) e))

/-- A point's sums of probabilities, over the tokens of its block. -/
theorem prob_point (t : Fin cfg0.N) (e : Fin 8) :
    bSums (iblk m c 0 t) (iblk m c 3 t) (ix2 e (0 : Fin 2)) = ∑ r, prob (aX m c) (aW m c) (row t.val (lt8 t) r) e :=
  (bSums_prob _ _ e).trans (Finset.sum_congr rfl fun r _ => congrFun (prob_row _ _ _ _ r _ (blk0 m c t r) (blk3 m c t)) e)

include hx hw in
/-- A point's sums of top-4 masks, over the tokens of its block. -/
theorem keep_point (t : Fin cfg0.N) (e : Fin 8) :
    bSums (iblk m c 0 t) (iblk m c 3 t) (ix2 e (1 : Fin 2)) = ∑ r, keep 4 (prob (aX m c) (aW m c) (row t.val (lt8 t) r)) e :=
  (bSums_keep _ _ (real0 m c hx t) (real3 m c hw t) e).trans
    (Finset.sum_congr rfl fun r _ => congrArg (fun p => keep 4 p e) (prob_row _ _ _ _ r _ (blk0 m c t r) (blk3 m c t)))

include hx hv in
/-- After the last point, the first accumulator holds each expert's divergences of all tokens. -/
theorem kl_all (e : Fin 8) : (after m c 7 (by omega)).2.2.2.2.1 (ix2 0 e) = ∑ n, klTok (aX m c) (aM m c) (aV m c) n e :=
  fold_all m c (fun s => s.2.2.2.2.1 (ix2 0 e)) _
    (fun t acc h => (congrFun (acc0_first m c t acc h) _).trans (kl_point m c hx hv t 0 e))
    (fun t acc h => (congrFun (acc0_later m c t acc h) _).trans (congrArg (acc.2.2.2.2.1 (ix2 0 e) + ·) (kl_point m c hx hv t 0 e)))

include hx hw hv in
/-- After the last point, the second accumulator holds each expert's gated variances of all tokens. -/
theorem unc_all (e : Fin 8) : (after m c 7 (by omega)).2.2.2.2.2.1 (ix2 0 e)
    = ∑ n, gate 4 (aX m c) (aW m c) n e * sumVar (aX m c) (aV m c) n e :=
  fold_all m c (fun s => s.2.2.2.2.2.1 (ix2 0 e)) (fun n => gate 4 (aX m c) (aW m c) n e * sumVar (aX m c) (aV m c) n e)
    (fun t acc h => (congrFun (acc1_first m c t acc h) _).trans (unc_point m c hx hw hv t 0 e))
    (fun t acc h => (congrFun (acc1_later m c t acc h) _).trans (congrArg (acc.2.2.2.2.2.1 (ix2 0 e) + ·) (unc_point m c hx hw hv t 0 e)))

/-- After the last point, the third accumulator's first column holds each expert's probabilities of all tokens. -/
theorem prob_all (e : Fin 8) : (after m c 7 (by omega)).2.2.2.2.2.2 (ix2 e 0) = ∑ n, prob (aX m c) (aW m c) n e :=
  fold_all m c (fun s => s.2.2.2.2.2.2 (ix2 e 0)) (fun n => prob (aX m c) (aW m c) n e)
    (fun t acc h => (congrFun (acc2_first m c t acc h) _).trans (prob_point m c t e))
    (fun t acc h => (congrFun (acc2_later m c t acc h) _).trans (congrArg (acc.2.2.2.2.2.2 (ix2 e 0) + ·) (prob_point m c t e)))

include hx hw in
/-- After the last point, the third accumulator's second column counts the tokens that have each expert among their four best. -/
theorem keep_all (e : Fin 8) : (after m c 7 (by omega)).2.2.2.2.2.2 (ix2 e 1) = ∑ n, keep 4 (prob (aX m c) (aW m c) n) e :=
  fold_all m c (fun s => s.2.2.2.2.2.2 (ix2 e 1)) (fun n => keep 4 (prob (aX m c) (aW m c) n) e)
    (fun t acc h => (congrFun (acc2_first m c t acc h) _).trans (keep_point m c hx hw t e))
    (fun t acc h => (congrFun (acc2_later m c t acc h) _).trans (congrArg (acc.2.2.2.2.2.2 (ix2 e 1) + ·) (keep_point m c hx hw t e)))

include hx hw hv in
/-- The loss after the last point is the reference's. -/
theorem loss_all (a b : Fin 1) : (after m c 7 (by omega)).2.2.2.1 (ix2 a b) = lossMeans (aX m c) (aW m c) (aM m c) (aV m c) := by
  have h : (after m c 7 (by omega)).2.2.2.1 (ix2 a b)
      = lossSums (∑ e, (after m c 7 (by omega)).2.2.2.2.1 (ix2 0 e)) (∑ e, (after m c 7 (by omega)).2.2.2.2.2.1 (ix2 0 e))
          (∑ e, (after m c 7 (by omega)).2.2.2.2.2.2 (ix2 e 0) * (after m c 7 (by omega)).2.2.2.2.2.2 (ix2 e 1)) := by
    rw [after_succ m c 6 (by omega)]
    exact st_10 m c (pt 7 (by omega)) _ rfl a b
  rw [h, Finset.sum_congr rfl fun e _ => kl_all m c hx hv e, Finset.sum_congr rfl fun e _ => unc_all m c hx hw hv e,
    Finset.sum_congr rfl fun e _ => congr (congrArg HMul.hMul (prob_all m c e)) (keep_all m c hx hw e)]
  exact loss_eq (aX m c) (aW m c) (aM m c) (aV m c) hx hv

/-! ## The results' arrays -/

include hx hw in
/-- The first result's array. -/
theorem G7_apply (n : Fin 2048) (j : Fin 768) : G7 m c (ix2 n j) = mixed 4 (aX m c) (aW m c) (aX m c) (aM m c) n j := by
  have hp : pt7Of (ix2 n j) = n.val / 256 := by
    show 1 * (n.val / 256 - 0) + 1 * (j.val / 768 - 0) = n.val / 256
    omega
  have hl : loc7Of (ix2 n j) = ix2 (⟨n.val % 256, by omega⟩ : Fin 256) j := by
    funext a; apply Fin.ext
    match a with
    | ⟨0, _⟩ => rfl
    | ⟨1, _⟩ => show j.val % 768 = j.val; omega
  have hr : row (n.val / 256) (by omega) (⟨n.val % 256, by omega⟩ : Fin 256) = n := by
    apply Fin.ext
    show 256 * (n.val / 256) + n.val % 256 = n.val
    omega
  unfold G7
  rw [dif_pos (by rw [hp]; exact lt_of_lt_of_eq (by omega) N_0.symm), hl, fold0_congr m c _ _ _ (lt_of_lt_of_eq (by omega) N_0.symm) hp]
  refine (after_7 m c hx hw (n.val / 256) (by omega) _ j).trans ?_
  rw [hr]

include hx hw in
/-- The second result's array. -/
theorem G8_apply (n : Fin 2048) (j : Fin 768) : G8 m c (ix2 n j) = mixed 1 (aX m c) (aW m c) (aY m c) (aM m c) n j := by
  have hp : pt8Of (ix2 n j) = n.val / 256 := by
    show 1 * (n.val / 256 - 0) + 1 * (j.val / 768 - 0) = n.val / 256
    omega
  have hl : loc8Of (ix2 n j) = ix2 (⟨n.val % 256, by omega⟩ : Fin 256) j := by
    funext a; apply Fin.ext
    match a with
    | ⟨0, _⟩ => rfl
    | ⟨1, _⟩ => show j.val % 768 = j.val; omega
  have hr : row (n.val / 256) (by omega) (⟨n.val % 256, by omega⟩ : Fin 256) = n := by
    apply Fin.ext
    show 256 * (n.val / 256) + n.val % 256 = n.val
    omega
  unfold G8
  rw [dif_pos (by rw [hp]; exact lt_of_lt_of_eq (by omega) N_0.symm), hl, fold0_congr m c _ _ _ (lt_of_lt_of_eq (by omega) N_0.symm) hp]
  refine (after_8 m c hx hw (n.val / 256) (by omega) _ j).trans ?_
  rw [hr]

include hx hw in
/-- The third result's array. -/
theorem G9_apply (n : Fin 2048) (j : Fin 768) : G9 m c (ix2 n j) = mixed 1 (aX m c) (aW m c) (aZ m c) (aM m c) n j := by
  have hp : pt9Of (ix2 n j) = n.val / 256 := by
    show 1 * (n.val / 256 - 0) + 1 * (j.val / 768 - 0) = n.val / 256
    omega
  have hl : loc9Of (ix2 n j) = ix2 (⟨n.val % 256, by omega⟩ : Fin 256) j := by
    funext a; apply Fin.ext
    match a with
    | ⟨0, _⟩ => rfl
    | ⟨1, _⟩ => show j.val % 768 = j.val; omega
  have hr : row (n.val / 256) (by omega) (⟨n.val % 256, by omega⟩ : Fin 256) = n := by
    apply Fin.ext
    show 256 * (n.val / 256) + n.val % 256 = n.val
    omega
  unfold G9
  rw [dif_pos (by rw [hp]; exact lt_of_lt_of_eq (by omega) N_0.symm), hl, fold0_congr m c _ _ _ (lt_of_lt_of_eq (by omega) N_0.symm) hp]
  refine (after_9 m c hx hw (n.val / 256) (by omega) _ j).trans ?_
  rw [hr]

include hx hw hv in
/-- The loss's array. -/
theorem G10_apply : G10 m c (ix2 (0 : Fin 1) (0 : Fin 1)) = lossMeans (aX m c) (aW m c) (aM m c) (aV m c) := by
  rw [G10_last]
  exact loss_all m c hx hw hv 0 0

end Cert.Gate
-- ==== Proof.RefMask.lean ====
module

public import proofs.«01_k».proof.Proof.Gen.ReferenceIdeal.Read
public import proofs.«01_k».proof.Proof.Rank
public import Idealize.ShloMosaic.Lib.Routing.OpsSet
public import Idealize.ShloMosaic.Lib.Pointwise

/-! The reference's two 0/1 masks, each a scatter of ones at the positions that a stable top-k names: the entry at
    token `n` and expert `e` is one exactly when fewer than `k` of that token's probabilities come before `e`'s. -/

@[expose] public section

set_option maxRecDepth 16384

noncomputable section

namespace Cert.Gate

open Cert.ReferenceIdeal Cert.ReferenceIdeal.Gen Cert.ReferenceIdeal.Read Idealize.ShloMosaic

/-- The position that a stable descending sort of a row puts at place `k`. -/
abbrev pick (p : Fin 8 → EReal) (k : Fin 8) : Fin 8 := sortedFrom (fun a b => Ideal.cmp .ogt (p a) (p b) == 1#1) k

/-- A row of a 2048 by 8 table, as a function of the expert. -/
abbrev row8 (y : (⟨2, ![2048, 8]⟩ : Shape).Idx → EReal) (n : Fin 2048) (e : Fin 8) : EReal := y (ix2 n e)

/-- Replacing the last coordinate of an index of the table of scores. -/
theorem along_last (n : Fin 2048) (e : Fin 8) (a : Fin 8) : Shape.Idx.along (s := S2048x8) (ix2 n e) 1 a = ix2 n a := by
  funext d
  match d with
  | ⟨0, _⟩ => rfl
  | ⟨1, _⟩ => rfl

variable (x0 : (⟨S2048x768, .f32⟩ : BufTy).Contents (Elt Ideal)) (x3 : (⟨S768x8, .f32⟩ : BufTy).Contents (Elt Ideal)) (x4 : (⟨S8, .f32⟩ : BufTy).Contents (Elt Ideal))

/-- The k-th index word of the top-4 is the position at place `k` of the sorted row. -/
theorem topk4_index (n : Fin 2048) (k : Fin 4) :
    val_main_indices (F := Ideal) x0 x3 x4 (ix2 n k)
      = BitVec.ofNat 32 (pick (row8 (val_main_v14 (F := Ideal) x0 x3 x4) n) (k.castLE (by decide))).val := by
  unfold val_main_indices
  generalize val_main_v14 (F := Ideal) x0 x3 x4 = y
  unfold Host.topK Host.sort2
  pointwise
  simp only [along_last]
  rfl

/-- The one index word of the top-1 is the position at place 0 of the sorted row. -/
theorem topk1_index (n : Fin 2048) (k : Fin 1) :
    val_main_indices_3 (F := Ideal) x0 x3 x4 (ix2 n k)
      = BitVec.ofNat 32 (pick (row8 (val_main_v14 (F := Ideal) x0 x3 x4) n) (k.castLE (by decide))).val := by
  obtain rfl : k = 0 := Subsingleton.elim _ _
  unfold val_main_indices_3
  generalize val_main_v14 (F := Ideal) x0 x3 x4 = y
  unfold Host.topK Host.sort2
  pointwise
  simp only [along_last]
  rfl

/-- The wrap of an index word that is not negative leaves it as it is. -/
theorem wrap_small (a : BitVec 32) (m : ℕ) (h : m < 2048) :
    Scalar.select (IntOp.cmpi .slt (BitVec.ofNat 32 m) 0#32) a (BitVec.ofNat 32 m) = BitVec.ofNat 32 m := by
  refine Routing.wrap_of_lt _ _ ?_
  rw [BitVec.toNat_ofNat]
  omega

/-- The first coordinate of a top-4 scatter position is the token. -/
theorem pairs4_row (n : Fin 2048) (k : Fin 4) : val_main_v31 (F := Ideal) x0 x3 x4 (ix3 n k 0) = BitVec.ofNat 32 n.val := by
  unfold val_main_v31
  pointwise [val_main_v29_apply, val_main_v28_apply, val_main_v22_apply, val_main_v19_apply, val_main_v16_apply,
    val_main_v15_apply, val_main_v18_apply, val_main_c_apply]
  exact wrap_small _ _ n.isLt

/-- The second coordinate of a top-4 scatter position is the expert that the sort put there. -/
theorem pairs4_col (n : Fin 2048) (k : Fin 4) :
    val_main_v31 (F := Ideal) x0 x3 x4 (ix3 n k 1)
      = BitVec.ofNat 32 (pick (row8 (val_main_v14 (F := Ideal) x0 x3 x4) n) (k.castLE (by decide))).val := by
  have hi : idx_main_v30 (ix3 n k 0) = ix2 n k := by
    funext d; match d with
    | ⟨0, _⟩ => rfl
    | ⟨1, _⟩ => rfl
  unfold val_main_v31
  pointwise [val_main_v30_apply, val_main_v27_apply, val_main_v24_apply, val_main_v23_apply, val_main_c_6_apply]
  rw [hi, topk4_index]
  exact wrap_small _ _ (by have := (pick (row8 (val_main_v14 (F := Ideal) x0 x3 x4) n) (k.castLE (by decide))).isLt; omega)

/-- The first coordinate of a top-1 scatter position is the token. -/
theorem pairs1_row (n : Fin 2048) (k : Fin 1) : val_main_v47 (F := Ideal) x0 x3 x4 (ix3 n k 0) = BitVec.ofNat 32 n.val := by
  unfold val_main_v47
  pointwise [val_main_v45_apply, val_main_v39_apply, val_main_v36_apply, val_main_v16_apply,
    val_main_v15_apply, val_main_v35_apply, val_main_c_10_apply]
  exact wrap_small _ _ n.isLt

/-- The second coordinate of a top-1 scatter position is the expert that the sort put there. -/
theorem pairs1_col (n : Fin 2048) (k : Fin 1) :
    val_main_v47 (F := Ideal) x0 x3 x4 (ix3 n k 1)
      = BitVec.ofNat 32 (pick (row8 (val_main_v14 (F := Ideal) x0 x3 x4) n) (k.castLE (by decide))).val := by
  obtain rfl : k = 0 := Subsingleton.elim _ _
  have hi : idx_main_v46 (ix3 n 0 0) = ix2 n 0 := by
    funext d; match d with
    | ⟨0, _⟩ => rfl
    | ⟨1, _⟩ => rfl
  unfold val_main_v47
  pointwise [val_main_v46_apply, val_main_v44_apply, val_main_v41_apply, val_main_v40_apply, val_main_c_12_apply]
  rw [hi, topk1_index]
  exact wrap_small _ _ (by have := (pick (row8 (val_main_v14 (F := Ideal) x0 x3 x4) n) ((0 : Fin 1).castLE (by decide))).isLt; omega)

/-- A scatter of ones into zeros at the pairs (token, position of place `k`) is the mask of the first `K` positions. -/
theorem scatter_keep {K : ℕ} (hK : K ≤ 8)
    (d : ScatterDims (Routing.shape2 2048 8) (Routing.shape3 2048 K 2) (Routing.shape2 2048 K)) (hiw : d.insertedWindowDims = [0, 1])
    (hsd : d.scatterDimsToOperandDims = [0, 1]) (hivd : d.indexVectorDim = 2)
    (z : (Routing.shape2 2048 8).Idx → EReal) (hz : ∀ i, z i = 0) (o : (Routing.shape2 2048 K).Idx → EReal) (ho : ∀ i, o i = 1)
    (idx : IVec (Routing.shape3 2048 K 2) 32) (p : Fin 2048 → Fin 8 → EReal)
    (hrow : ∀ n k, idx (ix3 n k 0) = BitVec.ofNat 32 n.val)
    (hcol : ∀ n k, idx (ix3 n k 1) = BitVec.ofNat 32 (pick (p n) (k.castLE hK)).val) (n : Fin 2048) (e : Fin 8) :
    Host.scatter d (fun _ b => b) z idx o (ix2 n e) = keep K (p n) e := by
  have hr : ∀ (a : Fin 2048) (b : Fin K), (idx (ix3 a b 0)).toInt = (a.val : ℤ) := fun a b => by
    rw [hrow, StableHlo.Predicate.toInt_ofNat_small _ (by have := a.isLt; omega)]
  have hc : ∀ (a : Fin 2048) (b : Fin K), (idx (ix3 a b 1)).toInt = ((pick (p a) (b.castLE hK)).val : ℤ) := fun a b => by
    rw [hcol, StableHlo.Predicate.toInt_ofNat_small _ (by have := (pick (p a) (b.castLE hK)).isLt; omega)]
  have hl : ∀ (a : Fin 2048) (b : Fin K), d.resultIdx? (ix2 a b) idx = some (ix2 n e) ↔ a = n ∧ pick (p a) (b.castLE hK) = e := fun a b => by
    refine (Routing.scatter_lands2 d hiw hsd hivd idx a b n e).trans ?_
    have h0 := hr a b
    have h1 := hc a b
    constructor
    · rintro ⟨g0, g1⟩
      exact ⟨Fin.ext (by exact_mod_cast h0.symm.trans g0), Fin.ext (by exact_mod_cast h1.symm.trans g1)⟩
    · rintro ⟨g0, g1⟩
      exact ⟨h0.trans (by rw [g0]), h1.trans (by rw [g1])⟩
  unfold keep
  by_cases h : rank (p n) e < K
  · rw [if_pos h]
    refine Routing.scatter_set_hit d z idx o _ 1 (fun k _ => ho k) (ix2 n (⟨rank (p n) e, h⟩ : Fin K)) ((hl _ _).mpr ⟨rfl, ?_⟩)
    exact rank_injective (p n) (rank_sortedFrom (p n) _)
  · rw [if_neg h]
    refine (Routing.scatter_set_miss d z idx o _ fun k hk => h ?_).trans (hz _)
    have hk' : d.resultIdx? (ix2 (k 0) (k 1)) idx = some (ix2 n e) := by
      rw [← hk]
      refine congrArg (fun j => d.resultIdx? j idx) (funext fun q => ?_)
      match q with
      | ⟨0, _⟩ => rfl
      | ⟨1, _⟩ => rfl
    obtain ⟨g0, g1⟩ := (hl _ _).mp hk'
    rw [← g0, ← g1]
    rw [rank_sortedFrom (p (k 0))]
    exact (k 1).isLt

/-- The float zero. -/
theorem zero_word : Ideal.ofBits .f32 0x00000000#32 = 0 := Ideal.ofBits_zero_f32
/-- The float one. -/
theorem one_word : Ideal.ofBits .f32 0x3F800000#32 = 1 := Ideal.ofBits_one_f32

/-- The reference's mask of the four greatest probabilities. -/
theorem mask4_apply (n : Fin 2048) (e : Fin 8) :
    val_main_v33 (F := Ideal) x0 x3 x4 (ix2 n e) = keep 4 (row8 (val_main_v14 (F := Ideal) x0 x3 x4) n) e := by
  unfold val_main_v33
  exact scatter_keep (K := 4) (by decide) scatter_S2048x8_S2048x4x2_S2048x4_n_01_01_2 rfl rfl rfl _
    (fun i => by pointwise [val_main_v17_apply, val_main_cst_4_apply]) _ (fun i => by pointwise [val_main_v32_apply, val_main_cst_8_apply]) _
    (row8 (val_main_v14 (F := Ideal) x0 x3 x4)) (pairs4_row x0 x3 x4) (pairs4_col x0 x3 x4) n e

/-- The reference's mask of the greatest probability. -/
theorem mask1_apply (n : Fin 2048) (e : Fin 8) :
    val_main_v49 (F := Ideal) x0 x3 x4 (ix2 n e) = keep 1 (row8 (val_main_v14 (F := Ideal) x0 x3 x4) n) e := by
  unfold val_main_v49
  exact scatter_keep (K := 1) (by decide) scatter_S2048x8_S2048x1x2_S2048x1_n_01_01_2 rfl rfl rfl _
    (fun i => by pointwise [val_main_v34_apply, val_main_cst_9_apply]) _ (fun i => by pointwise [val_main_v48_apply, val_main_cst_14_apply]) _
    (row8 (val_main_v14 (F := Ideal) x0 x3 x4)) (pairs1_row x0 x3 x4) (pairs1_col x0 x3 x4) n e

end Cert.Gate
-- ==== Proof.RefValue.lean ====
module

public import proofs.«01_k».proof.Proof.RefMask
public import proofs.«01_k».proof.Proof.Spec

/-! The reference's four results, read at an index and stated as the shared mathematics, for biases that are zero. -/

@[expose] public section

set_option maxRecDepth 16384

noncomputable section

namespace Cert.Gate

open Cert.ReferenceIdeal Cert.ReferenceIdeal.Gen Cert.ReferenceIdeal.Read Idealize.ShloMosaic

variable (x0 x1 x2 : (⟨S2048x768, .f32⟩ : BufTy).Contents (Elt Ideal)) (x3 : (⟨S768x8, .f32⟩ : BufTy).Contents (Elt Ideal)) (x4 : (⟨S8, .f32⟩ : BufTy).Contents (Elt Ideal))
  (x5 x7 : (⟨S8x768x768, .f32⟩ : BufTy).Contents (Elt Ideal)) (x6 x8 : (⟨S8x768, .f32⟩ : BufTy).Contents (Elt Ideal))
  (hb : ∀ i, x4 i = 0) (hm : ∀ i, x6 i = 0) (hv : ∀ i, x8 i = 0)

include hb in
/-- The reference's softmax of the gate's logits. -/
theorem ref_prob (n : Fin 2048) (e : Fin 8) : val_main_v14 (F := Ideal) x0 x3 x4 (ix2 n e) = prob x0 x3 n e := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  simp only [hb, add_zero, word_neg_inf, bot_le, max_eq_right, zero_add]
  rfl

include hb in
/-- With a zero bias, the reference's softmax of a token is the token's probabilities. -/
theorem ref_row (n : Fin 2048) : row8 (val_main_v14 (F := Ideal) x0 x3 x4) n = prob x0 x3 n :=
  funext fun e => ref_prob x0 x3 x4 hb n e

include hb in
/-- The reference's top-4 mask. -/
theorem ref_keep4 (n : Fin 2048) (e : Fin 8) : val_main_v33 (F := Ideal) x0 x3 x4 (ix2 n e) = keep 4 (prob x0 x3 n) e := by
  rw [mask4_apply, ref_row x0 x3 x4 hb]

include hb in
/-- The reference's top-1 mask. -/
theorem ref_keep1 (n : Fin 2048) (e : Fin 8) : val_main_v49 (F := Ideal) x0 x3 x4 (ix2 n e) = keep 1 (prob x0 x3 n) e := by
  rw [mask1_apply, ref_row x0 x3 x4 hb]

include hb hm in
/-- The reference's first result. -/
theorem ref_ox (n : Fin 2048) (j : Fin 768) : val_main_v159 (F := Ideal) x0 x3 x4 x5 x6 (ix2 n j) = mixed 4 x0 x3 x0 x5 n j := by
  pointwise [val_main_v159, val_main_v158, val_main_v157, val_main_v156, val_main_v153, val_main_v50, val_main_v69, val_main_v68,
    val_main_v67, val_main_v66, val_main_v65, val_main_v64, val_main_v63, val_main_v62, val_main_cst_43]
  simp only [ref_prob x0 x3 x4 hb, ref_keep4 x0 x3 x4 hb, hm, add_zero, mul_comm (x5 _)]
  rfl

include hb hm in
/-- The reference's second result. -/
theorem ref_oy (n : Fin 2048) (j : Fin 768) : val_main_v163 (F := Ideal) x0 x1 x3 x4 x5 x6 (ix2 n j) = mixed 1 x0 x3 x1 x5 n j := by
  pointwise [val_main_v163, val_main_v162, val_main_v161, val_main_v160, val_main_v154, val_main_v51, val_main_v96, val_main_v95,
    val_main_v94, val_main_v93, val_main_v92, val_main_v91, val_main_v90, val_main_v89, val_main_cst_44]
  simp only [ref_prob x0 x3 x4 hb, ref_keep1 x0 x3 x4 hb, hm, add_zero, mul_comm (x5 _)]
  rfl

include hb hm in
/-- The reference's third result. -/
theorem ref_oz (n : Fin 2048) (j : Fin 768) : val_main_v167 (F := Ideal) x0 x2 x3 x4 x5 x6 (ix2 n j) = mixed 1 x0 x3 x2 x5 n j := by
  pointwise [val_main_v167, val_main_v166, val_main_v165, val_main_v164, val_main_v155, val_main_v51, val_main_v123, val_main_v122,
    val_main_v121, val_main_v120, val_main_v119, val_main_v118, val_main_v117, val_main_v116, val_main_cst_45]
  simp only [ref_prob x0 x3 x4 hb, ref_keep1 x0 x3 x4 hb, hm, add_zero, mul_comm (x5 _)]
  rfl

include hb hm hv in
/-- The reference's loss. -/
theorem ref_loss : val_main_v168 (F := Ideal) x0 x3 x4 x5 x6 x7 x8 (ix2 0 0) = lossMeans x0 x3 x5 x7 := by
  pointwise [val_main_v168, val_main_v152, val_main_v151, val_main_v150, val_main_v149, val_main_v148, val_main_v147, val_main_v146,
    val_main_v145, val_main_v144, val_main_v143, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v61, val_main_v60, val_main_v59, val_main_v58, val_main_v57,
    val_main_v56, val_main_v55, val_main_v54, val_main_v53, val_main_v52, val_main_cst_15, val_main_cst_16, val_main_cst_17,
    val_main_cst_18, val_main_cst_19, val_main_cst_20, val_main_cst_21, val_main_cst_22, val_main_cst_23, val_main_cst_24,
    val_main_cst_25, val_main_cst_26, val_main_cst_37, val_main_cst_38, val_main_cst_39, val_main_cst_40, val_main_cst_41,
    val_main_cst_42, val_main_v50, val_main_v69, val_main_v68, val_main_v67, val_main_v66, val_main_v65, val_main_v64,
    val_main_v63, val_main_v62]
  simp only [ref_prob x0 x3 x4 hb, ref_keep4 x0 x3 x4 hb, hm, hv, add_zero, mul_comm (x5 _), mul_comm (x7 _), word_2048, word_8, word_64, word_2]
  rfl

end Cert.Gate
-- ==== Proof.Precond.lean ====
module

public import proofs.«01_k».proof.Defs
public import proofs.«01_k».proof.Proof.KerBlocks
public import proofs.«01_k».proof.Proof.Gen.Pre_tame
public import Idealize.ShloMosaic.Lib.ReduceAll
public import Idealize.ShloMosaic.Lib.WordCmp

/-! The precondition, read back: the first tokens, the gate's matrix and the log-variance matrices are finite, and the
    three biases are zero. -/

@[expose] public section

noncomputable section

namespace Cert.Gate

open Idealize.ShloMosaic

/-- The float +∞. -/
theorem word_inf : Ideal.ofBits .f32 0x7F800000#32 = ⊤ := by simp [Ideal.ofBits, Ideal.ieee]
/-- The float zero. -/
theorem word_zero : Ideal.ofBits .f32 0x00000000#32 = 0 := by simp [Ideal.ofBits, Ideal.ieee]

instance : Subsingleton (Cert.Pre_tame.S_).Idx := ⟨fun a b => funext fun i => i.elim0⟩

/-- An extended real whose absolute value is less than infinity is a real number. -/
theorem real_of_abs_lt (a : EReal) (h : FloatOps.cmpf (F := Ideal) (φ := .f32) .olt (FloatOps.absf (F := Ideal) (φ := .f32) a) (⊤ : EReal) = 1#1) :
    ∃ r : ℝ, a = (r : EReal) := by
  have h' : max a (-a) < ⊤ := by
    have h' : BitVec.ofBool (decide (max a (-a) < ⊤)) = 1#1 := h
    exact WordCmp.ofBool_decide_eq_one_iff _ |>.1 h'
  induction a with
  | bot => exact absurd h' (by simp)
  | top => exact absurd h' (by simp)
  | coe r => exact ⟨r, rfl⟩

/-- An extended real that the comparison finds equal to zero is zero. -/
theorem zero_of_eq (a : EReal) (h : FloatOps.cmpf (F := Ideal) (φ := .f32) .oeq a (0 : EReal) = 1#1) : a = 0 := by
  have h' : BitVec.ofBool (decide (a = 0)) = 1#1 := h
  exact WordCmp.ofBool_decide_eq_one_iff _ |>.1 h'

variable [Cert.Pre_tame.Facts] (x y z : FVec Ideal Cert.Pre_tame.S2048x768 .f32) (w : FVec Ideal Cert.Pre_tame.S768x8 .f32)
  (b : FVec Ideal Cert.Pre_tame.S8 .f32) (m v : FVec Ideal Cert.Pre_tame.S8x768x768 .f32) (mb vb : FVec Ideal Cert.Pre_tame.S8x768 .f32)

/-- What the precondition says of the arguments. -/
theorem tame_says (h : Cert.Pre_tame.fn (F := Ideal) x y z w b m mb v vb = fun _ => 1#1) :
    IsReal x ∧ IsReal w ∧ IsReal v ∧ (∀ i, b i = 0) ∧ (∀ i, mb i = 0) ∧ (∀ i, vb i = 0) := by
  have h := congrFun h (fun i => i.elim0)
  dsimp only [Cert.Pre_tame.fn, Cert.Pre_tame.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  have h6 := Host.reduce_andi_all _ _ _ _ _ h6
  refine ⟨fun i => real_of_abs_lt _ ?_, fun i => real_of_abs_lt _ ?_, fun i => real_of_abs_lt _ ?_, fun i => zero_of_eq _ ?_,
    fun i => zero_of_eq _ ?_, fun i => zero_of_eq _ ?_⟩
  · rw [← word_inf]; exact h1 i
  · rw [← word_inf]; exact h2 i
  · rw [← word_inf]; exact h3 i
  · rw [← word_zero]; exact h4 i
  · rw [← word_zero]; exact h5 i
  · rw [← word_zero]; exact h6 i

end Cert.Gate
-- ==== Proof.Join.lean ====
module

public import proofs.«01_k».proof.Proof.KerFold
public import proofs.«01_k».proof.Proof.RefValue
public import proofs.«01_k».proof.Proof.Precond
public import proofs.«01_k».proof.Proof.Gen.ReferenceIdeal.Run

/-! The reference's arrays are the kernel's: each result is the same function of the arguments, index by index, for
    arguments that meet the precondition. -/

@[expose] public section

set_option maxRecDepth 16384

noncomputable section

namespace Cert.Gate

open Cert.KernelIdeal Cert.KernelIdeal.Gen Cert.KernelIdeal.Value Idealize.ShloMosaic Idealize.ShloMosaic.TcCoe Idealize.SL.Sem
open Cert.ReferenceIdeal.Read (val_main_v159 val_main_v163 val_main_v167 val_main_v168)

variable (m : (a : Loc nD τ sig) → Buf (Elt Ideal) a) (c : Dev nD)

/-- The gate's bias. -/
abbrev aB : FVec Ideal S8 .f32 := m ((c : Thread nD τ).loc main_arg4)
/-- The bias of the experts' means. -/
abbrev aMb : FVec Ideal S8x768 .f32 := m ((c : Thread nD τ).loc main_arg6)
/-- The bias of the experts' log-variances. -/
abbrev aVb : FVec Ideal S8x768 .f32 := m ((c : Thread nD τ).loc main_arg8)

variable (hx : IsReal (aX m c)) (hw : IsReal (aW m c)) (hv : IsReal (aV m c))
  (hb : ∀ i, aB m c i = 0) (hm : ∀ i, aMb m c i = 0) (hl : ∀ i, aVb m c i = 0)

include hx hw hb hm in
/-- The first results agree. -/
theorem join_ox : val_main_v159 (F := Ideal) (aX m c) (aW m c) (aB m c) (aM m c) (aMb m c) = G7 m c := by
  funext i; idx_vars i
  exact (ref_ox _ _ _ _ _ hb hm _ _).trans (G7_apply m c hx hw _ _).symm

include hx hw hb hm in
/-- The second results agree. -/
theorem join_oy : val_main_v163 (F := Ideal) (aX m c) (aY m c) (aW m c) (aB m c) (aM m c) (aMb m c) = G8 m c := by
  funext i; idx_vars i
  exact (ref_oy _ _ _ _ _ _ hb hm _ _).trans (G8_apply m c hx hw _ _).symm

include hx hw hb hm in
/-- The third results agree. -/
theorem join_oz : val_main_v167 (F := Ideal) (aX m c) (aZ m c) (aW m c) (aB m c) (aM m c) (aMb m c) = G9 m c := by
  funext i; idx_vars i
  exact (ref_oz _ _ _ _ _ _ hb hm _ _).trans (G9_apply m c hx hw _ _).symm

include hx hw hv hb hm hl in
/-- The losses agree. -/
theorem join_loss : val_main_v168 (F := Ideal) (aX m c) (aW m c) (aB m c) (aM m c) (aMb m c) (aV m c) (aVb m c) = G10 m c := by
  funext i; idx_vars i
  obtain rfl : i0 = 0 := Subsingleton.elim _ _
  obtain rfl : i1 = 0 := Subsingleton.elim _ _
  exact (ref_loss _ _ _ _ _ _ _ hb hm hl).trans (G10_apply m c hx hw hv).symm

/-- The precondition gives each device's arguments their properties. -/
theorem tame_at (h : Cert.Pre_KernelIdeal_tame m) : IsReal (aX m c) ∧ IsReal (aW m c) ∧ IsReal (aV m c)
    ∧ (∀ i, aB m c i = 0) ∧ (∀ i, aMb m c i = 0) ∧ (∀ i, aVb m c i = 0) :=
  tame_says _ _ _ _ _ _ _ _ _ (h c)

end Cert.Gate
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_tame
public import proofs.«01_k».proof.Proof.Join
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
        ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

/-- The idealized kernel and the idealized reference end with equal results, for arguments that meet the precondition. -/
theorem algebraic : Cert.algebraic_KernelIdeal_ReferenceIdeal_pre_tame := by
  intro m g m' g' hpre hargs
  refine ⟨fun c => Cert.KernelIdeal.Value.G7 m c, fun c => Cert.KernelIdeal.Value.G8 m c, fun c => Cert.KernelIdeal.Value.G9 m c,
    fun c => Cert.KernelIdeal.Value.G10 m c, Cert.KernelIdeal.Value.run m g, ?_⟩
  refine (θ_run Cert.ReferenceIdeal.defs _ _).mono (fun r h c => ?_) (Cert.ReferenceIdeal.Value.run (F := Ideal) m' g')
  obtain ⟨h0, h1, h2, h3, hk⟩ := h c
  obtain ⟨e0, e1, e2, e3, e4, e5, e6, e7, e8⟩ := hargs c
  obtain ⟨hx, hw, hv, hb, hm, hl⟩ := Cert.Gate.tame_at m c hpre
  have f0 : StableHlo.launchContents m' c (Proc.devRef .tc Cert.ReferenceIdeal.main_arg0) = m ((c.tc : Thread Cert.KernelIdeal.nD Cert.KernelIdeal.τ).loc Cert.KernelIdeal.main_arg0) := e0
  have f1 : StableHlo.launchContents m' c (Proc.devRef .tc Cert.ReferenceIdeal.main_arg1) = m ((c.tc : Thread Cert.KernelIdeal.nD Cert.KernelIdeal.τ).loc Cert.KernelIdeal.main_arg1) := e1
  have f2 : StableHlo.launchContents m' c (Proc.devRef .tc Cert.ReferenceIdeal.main_arg2) = m ((c.tc : Thread Cert.KernelIdeal.nD Cert.KernelIdeal.τ).loc Cert.KernelIdeal.main_arg2) := e2
  have f3 : StableHlo.launchContents m' c (Proc.devRef .tc Cert.ReferenceIdeal.main_arg3) = m ((c.tc : Thread Cert.KernelIdeal.nD Cert.KernelIdeal.τ).loc Cert.KernelIdeal.main_arg3) := e3
  have f4 : StableHlo.launchContents m' c (Proc.devRef .tc Cert.ReferenceIdeal.main_arg4) = m ((c.tc : Thread Cert.KernelIdeal.nD Cert.KernelIdeal.τ).loc Cert.KernelIdeal.main_arg4) := e4
  have f5 : StableHlo.launchContents m' c (Proc.devRef .tc Cert.ReferenceIdeal.main_arg5) = m ((c.tc : Thread Cert.KernelIdeal.nD Cert.KernelIdeal.τ).loc Cert.KernelIdeal.main_arg5) := e5
  have f6 : StableHlo.launchContents m' c (Proc.devRef .tc Cert.ReferenceIdeal.main_arg6) = m ((c.tc : Thread Cert.KernelIdeal.nD Cert.KernelIdeal.τ).loc Cert.KernelIdeal.main_arg6) := e6
  have f7 : StableHlo.launchContents m' c (Proc.devRef .tc Cert.ReferenceIdeal.main_arg7) = m ((c.tc : Thread Cert.KernelIdeal.nD Cert.KernelIdeal.τ).loc Cert.KernelIdeal.main_arg7) := e7
  have f8 : StableHlo.launchContents m' c (Proc.devRef .tc Cert.ReferenceIdeal.main_arg8) = m ((c.tc : Thread Cert.KernelIdeal.nD Cert.KernelIdeal.τ).loc Cert.KernelIdeal.main_arg8) := e8
  refine ⟨h0.trans ?_, h1.trans ?_, h2.trans ?_, h3.trans ?_, hk⟩
  · refine Eq.trans ?_ (Cert.Gate.join_ox m c hx hw hb hm)
    refine (Cert.ReferenceIdeal.Read.val_main_v159_eq (StableHlo.launchContents m' c)).trans ?_
    rw [f0, f3, f4, f5, f6]
  · refine Eq.trans ?_ (Cert.Gate.join_oy m c hx hw hb hm)
    refine (Cert.ReferenceIdeal.Read.val_main_v163_eq (StableHlo.launchContents m' c)).trans ?_
    rw [f0, f1, f3, f4, f5, f6]
  · refine Eq.trans ?_ (Cert.Gate.join_oz m c hx hw hb hm)
    refine (Cert.ReferenceIdeal.Read.val_main_v167_eq (StableHlo.launchContents m' c)).trans ?_
    rw [f0, f2, f3, f4, f5, f6]
  · refine Eq.trans ?_ (Cert.Gate.join_loss m c hx hw hv hb hm hl)
    refine (Cert.ReferenceIdeal.Read.val_main_v168_eq (StableHlo.launchContents m' c)).trans ?_
    rw [f0, f3, f4, f5, f6, f7, f8]

/-- Everything that is claimed: the three frames, the idealization's faithfulness, and the equality of the results. -/
theorem claim : Cert.Claim := ⟨Cert.Kernel.Gen.facts, Cert.KernelIdeal.Gen.facts, Cert.ReferenceIdeal.Gen.facts, Cert.Pre_tame.Gen.facts,
  fun m g _ => Cert.Kernel.Gen.frame m g, fun m g _ => Cert.KernelIdeal.Gen.frame m g, fun m g _ => Cert.KernelIdeal.Gen.frame m g,
  fun m g _ => frame_r m g, fun m g _ => frame_r m g, trivial, algebraic⟩

end Cert.Proof

end
